-- ==== Defs.lean ====
def Pre_Kernel [hPre_indices_nonnegative : Cert.Pre_indices_nonnegative.Facts] (m : (ℓ : Loc Cert.Kernel.nD Cert.Kernel.τ Cert.Kernel.sig) → Buf (Elt Bits) ℓ) : Prop :=
  ∀ c : Dev Cert.Kernel.nD,
    (Cert.Pre_indices_nonnegative.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_indices_nonnegative : Cert.Pre_indices_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_indices_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_sorted_graphs_finite_nodes [hPre_sorted_graphs_finite_nodes : Cert.Pre_sorted_graphs_finite_nodes.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_graphs_finite_nodes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_graphs_finite_nodes [hPre_sorted_graphs_finite_nodes : Cert.Pre_sorted_graphs_finite_nodes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_graphs_finite_nodes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_indices_nonnegative : Cert.Pre_indices_nonnegative.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_indices_nonnegative : Cert.Pre_indices_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sorted_graphs_finite_nodes [hKernelIdeal : Cert.KernelIdeal.Facts] [hPre_sorted_graphs_finite_nodes : Cert.Pre_sorted_graphs_finite_nodes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_graphs_finite_nodes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sorted_graphs_finite_nodes [hReferenceIdeal : Cert.ReferenceIdeal.Facts] [hPre_sorted_graphs_finite_nodes : Cert.Pre_sorted_graphs_finite_nodes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_graphs_finite_nodes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sorted_graphs_finite_nodes [hKernelIdeal : Cert.KernelIdeal.Facts] [hReferenceIdeal : Cert.ReferenceIdeal.Facts] [hPre_sorted_graphs_finite_nodes : Cert.Pre_sorted_graphs_finite_nodes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_graphs_finite_nodes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_indices_nonnegative : Cert.Pre_indices_nonnegative.Facts) (hPre_sorted_graphs_finite_nodes : Cert.Pre_sorted_graphs_finite_nodes.Facts),
    quiescent_Kernel (hKernel := hKernel) (hPre_indices_nonnegative := hPre_indices_nonnegative)
    ∧ quiescent_KernelIdeal (hKernelIdeal := hKernelIdeal) (hPre_indices_nonnegative := hPre_indices_nonnegative)
    ∧ quiescent_KernelIdeal_pre_sorted_graphs_finite_nodes (hKernelIdeal := hKernelIdeal) (hPre_sorted_graphs_finite_nodes := hPre_sorted_graphs_finite_nodes)
    ∧ quiescent_ReferenceIdeal (hReferenceIdeal := hReferenceIdeal)
    ∧ quiescent_ReferenceIdeal_pre_sorted_graphs_finite_nodes (hReferenceIdeal := hReferenceIdeal) (hPre_sorted_graphs_finite_nodes := hPre_sorted_graphs_finite_nodes)
    ∧ preserves_Kernel_KernelIdeal
    ∧ algebraic_KernelIdeal_ReferenceIdeal_pre_sorted_graphs_finite_nodes (hKernelIdeal := hKernelIdeal) (hReferenceIdeal := hReferenceIdeal) (hPre_sorted_graphs_finite_nodes := hPre_sorted_graphs_finite_nodes)
-- ==== Pre_indices_nonnegative.lean ====
abbrev S50000x256 : Shape := ⟨2, ![50000, 256]⟩
abbrev S256 : Shape := ⟨1, ![256]⟩
abbrev S50000 : Shape := ⟨1, ![50000]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel

variable [Facts]

def fn {F : FTy → Type} [FloatOps F] (main_arg0 : FVec F S50000x256 .f32) (main_arg1 : FVec F S256 .f32) (main_arg2 : FVec F S256 .f32) (main_arg3 : IVec S50000 32) : IVec S_ 1 :=
  let main_c : IVec S_ 32 := constantI S_ 32 0#32
  let main_v0 : IVec S50000 32 := broadcastInDim S50000 ![] bcast_S_S50000 main_c
  let main_v1 : IVec S50000 1 := cmpi .sge main_arg3 main_v0
  let main_c_0 : IVec S_ 1 := constantI S_ 1 1#1
  let main_v2 : IVec S_ 1 := (fun x v => Host.reduce IntOp.andi x v reducesTo_S50000_S_d0 h_S_) main_v1 main_c_0
  main_v2
-- ==== Pre_sorted_graphs_finite_nodes.lean ====
abbrev S50000x256 : Shape := ⟨2, ![50000, 256]⟩
abbrev S256 : Shape := ⟨1, ![256]⟩
abbrev S50000 : Shape := ⟨1, ![50000]⟩
abbrev S_ : Shape := ⟨0, ![]⟩
abbrev S49999 : Shape := ⟨1, ![49999]⟩

class Facts : Prop where
  bcast_S_S50000 : S_.BroadcastsInDim S50000 (![] : Fin 0 → Fin S50000.rank)
  reducesTo_S50000_S_d0 : S50000.ReducesTo [0] S_
  h_S_ : 0 < S_.numel
  slices_S50000_S49999_0 : S50000.Slices ![0] S49999
  slices_S50000_S49999_1 : S50000.Slices ![1] S49999
  reducesTo_S49999_S_d0 : S49999.ReducesTo [0] S_
  bcast_S_S50000x256 : S_.BroadcastsInDim S50000x256 (![] : Fin 0 → Fin S50000x256.rank)
  reducesTo_S50000x256_S_d0_1 : S50000x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v5 : IVec S_ 1) (main_v9 : IVec S_ 1) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : IVec S_ 1 := andi main_v5 main_v9
  let main_v20 : IVec S_ 1 := andi main_v19 main_v18
  main_v20

def fn {F : FTy → Type} [FloatOps F] (main_arg0 : FVec F S50000x256 .f32) (main_arg1 : FVec F S256 .f32) (main_arg2 : FVec F S256 .f32) (main_arg3 : IVec S50000 32) : IVec S_ 1 :=
  let main_c : IVec S_ 32 := constantI S_ 32 0#32
  let main_v0 : IVec S50000 32 := broadcastInDim S50000 ![] bcast_S_S50000 main_c
  let main_v1 : IVec S50000 1 := cmpi .sge main_arg3 main_v0
  let main_c_0 : IVec S_ 32 := constantI S_ 32 512#32
  let main_v2 : IVec S50000 32 := broadcastInDim S50000 ![] bcast_S_S50000 main_c_0
  let main_v3 : IVec S50000 1 := cmpi .slt main_arg3 main_v2
  let main_v4 : IVec S50000 1 := andi main_v1 main_v3
  let main_c_1 : IVec S_ 1 := constantI S_ 1 1#1
  let main_v5 : IVec S_ 1 := (fun x v => Host.reduce IntOp.andi x v reducesTo_S50000_S_d0 h_S_) main_v4 main_c_1
  let main_v6 : IVec S49999 32 := (extractStridedSlice S49999 ![0] · slices_S50000_S49999_0) main_arg3
  let main_v7 : IVec S49999 32 := (extractStridedSlice S49999 ![1] · slices_S50000_S49999_1) main_arg3
  let main_v8 : IVec S49999 1 := cmpi .sle main_v6 main_v7
  let main_c_2 : IVec S_ 1 := constantI S_ 1 1#1
  let main_v9 : IVec S_ 1 := (fun x v => Host.reduce IntOp.andi x v reducesTo_S49999_S_d0 h_S_) main_v8 main_c_2
  let main_v10 : FVec F S50000x256 .f32 := Host.absf main_arg0
  let main_cst : FVec F S_ .f32 := constant S_ .f32 0x7F800000#32
  let main_v11 : FVec F S50000x256 .f32 := broadcastInDim S50000x256 ![] bcast_S_S50000x256 main_cst
  let main_v12 : IVec S50000x256 1 := cmpf .olt main_v10 main_v11
  let main_c_3 : IVec S_ 1 := constantI S_ 1 1#1
  let main_v13 : IVec S_ 1 := (fun x v => Host.reduce IntOp.andi x v reducesTo_S50000x256_S_d0_1 h_S_) main_v12 main_c_3
  let main_v14 : FVec F S256 .f32 := Host.absf main_arg1
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v5 main_v9 main_v13 main_v16
-- ==== Kernel.lean ====
abbrev S50000x256 : Shape := ⟨2, ![50000, 256]⟩
abbrev S256 : Shape := ⟨1, ![256]⟩
abbrev S50000 : Shape := ⟨1, ![50000]⟩
abbrev S_ : Shape := ⟨0, ![]⟩
abbrev S51200x256 : Shape := ⟨2, ![51200, 256]⟩
abbrev S51200 : Shape := ⟨1, ![51200]⟩
abbrev S10x1x5120 : Shape := ⟨3, ![10, 1, 5120]⟩
abbrev S1x256 : Shape := ⟨2, ![1, 256]⟩
abbrev S1x1x5120 : Shape := ⟨3, ![1, 1, 5120]⟩
abbrev S5120x256 : Shape := ⟨2, ![5120, 256]⟩
abbrev S512x256 : Shape := ⟨2, ![512, 256]⟩
abbrev S512x1 : Shape := ⟨2, ![512, 1]⟩
abbrev S1x5120 : Shape := ⟨2, ![1, 5120]⟩
abbrev S1x1x1 : Shape := ⟨3, ![1, 1, 1]⟩
abbrev S192x1 : Shape := ⟨2, ![192, 1]⟩
abbrev S192x5120 : Shape := ⟨2, ![192, 5120]⟩
abbrev S192x256 : Shape := ⟨2, ![192, 256]⟩
abbrev S192 : Shape := ⟨1, ![192]⟩
abbrev S512x5120 : Shape := ⟨2, ![512, 5120]⟩
abbrev S512 : Shape := ⟨1, ![512]⟩

abbrev nBuf : Space → Nat
  | .hbm => 15
  | .vmem => 14
  | .smem => 0
  | _ => 0

abbrev bufTy : (tb : Table) → Fin (tcTables nBuf tb) → BufTy
  | .hbm, ⟨0, _⟩ => ⟨S50000x256, .f32⟩
  | .hbm, ⟨1, _⟩ => ⟨S256, .f32⟩
  | .hbm, ⟨2, _⟩ => ⟨S256, .f32⟩
  | .hbm, ⟨3, _⟩ => ⟨S50000, .i32⟩
  | .hbm, ⟨4, _⟩ => ⟨S_, .i32⟩
  | .hbm, ⟨5, _⟩ => ⟨S_, .f32⟩
  | .hbm, ⟨6, _⟩ => ⟨S51200x256, .f32⟩
  | .hbm, ⟨7, _⟩ => ⟨S_, .i32⟩
  | .hbm, ⟨8, _⟩ => ⟨S_, .i32⟩
  | .hbm, ⟨9, _⟩ => ⟨S51200, .i32⟩
  | .hbm, ⟨10, _⟩ => ⟨S10x1x5120, .i32⟩
  | .hbm, ⟨11, _⟩ => ⟨S1x256, .f32⟩
  | .hbm, ⟨12, _⟩ => ⟨S1x256, .f32⟩
  | .hbm, ⟨13, _⟩ => ⟨S51200x256, .f32⟩
  | .hbm, ⟨14, _⟩ => ⟨S50000x256, .f32⟩
  | .local _ .vmem, ⟨0, _⟩ => ⟨S1x1x5120, .i32⟩
  | .local _ .vmem, ⟨1, _⟩ => ⟨S1x1x5120, .i32⟩
  | .local _ .vmem, ⟨2, _⟩ => ⟨S5120x256, .f32⟩
  | .local _ .vmem, ⟨3, _⟩ => ⟨S5120x256, .f32⟩
  | .local _ .vmem, ⟨4, _⟩ => ⟨S1x256, .f32⟩
  | .local _ .vmem, ⟨5, _⟩ => ⟨S1x256, .f32⟩
  | .local _ .vmem, ⟨6, _⟩ => ⟨S5120x256, .f32⟩
  | .local _ .vmem, ⟨7, _⟩ => ⟨S5120x256, .f32⟩
  | .local _ .vmem, ⟨8, _⟩ => ⟨S512x256, .f32⟩
  | .local _ .vmem, ⟨9, _⟩ => ⟨S512x256, .f32⟩
  | .local _ .vmem, ⟨10, _⟩ => ⟨S512x1, .f32⟩
  | .local _ .vmem, ⟨11, _⟩ => ⟨S512x256, .bf16⟩
  | .local _ .vmem, ⟨12, _⟩ => ⟨S512x256, .bf16⟩
  | .local _ .vmem, ⟨13, _⟩ => ⟨S51200x256, .bf16⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c10_i32 : BitVec 32 := 10#32
  let v30 : BitVec 1 := Scalar.cmpi .slt arg0 c10_i32
  let v31 : BitVec 32 := Scalar.extui v30
  let c0_i32_14 : BitVec 32 := 0#32
  let v32 : BitVec 1 := Scalar.cmpi .ne v31 c0_i32_14
  v32

def k0_off1 (i : grid0.Coords) : Fin 2 → Nat :=
  let arg0 : BitVec 32 := BitVec.ofNat 32 (i 0).val
  let c5120_i32 : BitVec 32 := 5120#32
  let v42 : BitVec 32 := Scalar.muli arg0 c5120_i32
  let v43 : Index := Scalar.indexCast v42
  let c0_21 : Index := 0#32
  ![v43.toNat, 0]
def k0_off2 (v6 : BitVec 32) : Fin 2 → Nat :=
  let c0_i32_8 : BitVec 32 := 0#32
  let v12 : BitVec 1 := Scalar.cmpi .sgt v6 c0_i32_8
  let v13 : BitVec 32 := Scalar.extui v12
  let c0_i32_9 : BitVec 32 := 0#32
  let v14 : BitVec 1 := Scalar.cmpi .slt v6 c0_i32_9
  let v15 : BitVec 32 := Scalar.extui v14
  let v16 : BitVec 32 := Scalar.subi v13 v15
  let c16_i32 : BitVec 32 := 16#32
  let c0_i32_10 : BitVec 32 := 0#32
  let v17 : BitVec 1 := Scalar.cmpi .sgt c16_i32 c0_i32_10
  let v18 : BitVec 32 := Scalar.extui v17
  let c0_i32_11 : BitVec 32 := 0#32
  let v19 : BitVec 1 := Scalar.cmpi .slt c16_i32 c0_i32_11
  let v20 : BitVec 32 := Scalar.extui v19
  let v21 : BitVec 32 := Scalar.subi v18 v20
  let v22 : BitVec 1 := Scalar.cmpi .ne v16 v21
  let v23 : BitVec 32 := Scalar.remsi v6 c16_i32
  let c0_i32_12 : BitVec 32 := 0#32
  let v24 : BitVec 1 := Scalar.cmpi .ne v23 c0_i32_12
  let v25 : BitVec 1 := Scalar.andi v22 v24
  let v11 : BitVec 32 := Scalar.divsi v6 c16_i32
  let c1_i32 : BitVec 32 := 1#32
  let v26 : BitVec 32 := Scalar.subi v11 c1_i32
  let v27 : BitVec 32 := Scalar.select v25 v26 v11
  let c16_i32_13 : BitVec 32 := 16#32
  let v28 : BitVec 32 := Scalar.muli v27 c16_i32_13
  let c320_i32 : BitVec 32 := 320#32
  let v29 : BitVec 32 := Scalar.minsi v28 c320_i32
  let v64 : Index := Scalar.indexCast v29
  let c0_25 : Index := 0#32
  ![v64.toNat, 0]
def k0_cond3 (v6 : BitVec 32) (v8 : BitVec 32) : BitVec 1 :=
  let v9 : BitVec 32 := Scalar.subi v8 v6
  let c176_i32 : BitVec 32 := 176#32
  let v10 : BitVec 1 := Scalar.cmpi .slt v9 c176_i32
  let v47 : BitVec 32 := Scalar.extui v10
  let c0_i32_22 : BitVec 32 := 0#32
  let v48 : BitVec 1 := Scalar.cmpi .ne v47 c0_i32_22
  v48

def k0_off3 (v6 : BitVec 32) : Fin 2 → Nat :=
  let c0_i32_8 : BitVec 32 := 0#32
  let v12 : BitVec 1 := Scalar.cmpi .sgt v6 c0_i32_8
  let v13 : BitVec 32 := Scalar.extui v12
  let c0_i32_9 : BitVec 32 := 0#32
  let v14 : BitVec 1 := Scalar.cmpi .slt v6 c0_i32_9
  let v15 : BitVec 32 := Scalar.extui v14
  let v16 : BitVec 32 := Scalar.subi v13 v15
  let c16_i32 : BitVec 32 := 16#32
  let c0_i32_10 : BitVec 32 := 0#32
  let v17 : BitVec 1 := Scalar.cmpi .sgt c16_i32 c0_i32_10
  let v18 : BitVec 32 := Scalar.extui v17
  let c0_i32_11 : BitVec 32 := 0#32
  let v19 : BitVec 1 := Scalar.cmpi .slt c16_i32 c0_i32_11
  let v20 : BitVec 32 := Scalar.extui v19
  let v21 : BitVec 32 := Scalar.subi v18 v20
  let v22 : BitVec 1 := Scalar.cmpi .ne v16 v21
  let v23 : BitVec 32 := Scalar.remsi v6 c16_i32
  let c0_i32_12 : BitVec 32 := 0#32
  let v24 : BitVec 1 := Scalar.cmpi .ne v23 c0_i32_12
  let v25 : BitVec 1 := Scalar.andi v22 v24
  let v11 : BitVec 32 := Scalar.divsi v6 c16_i32
  let c1_i32 : BitVec 32 := 1#32
  let v26 : BitVec 32 := Scalar.subi v11 c1_i32
  let v27 : BitVec 32 := Scalar.select v25 v26 v11
  let c16_i32_13 : BitVec 32 := 16#32
  let v28 : BitVec 32 := Scalar.muli v27 c16_i32_13
  let c320_i32 : BitVec 32 := 320#32
  let v29 : BitVec 32 := Scalar.minsi v28 c320_i32
  let v78 : Index := Scalar.indexCast v29
  let c0_29 : Index := 0#32
  ![v78.toNat, 0]
def k0_cond6 (i : grid0.Coords) : BitVec 1 :=
  let arg0 : BitVec 32 := BitVec.ofNat 32 (i 0).val
  let c10_i32_17 : BitVec 32 := 10#32
  let v36 : BitVec 1 := Scalar.cmpi .sge arg0 c10_i32_17
  let v37 : BitVec 32 := Scalar.extui v36
  let c0_i32_18 : BitVec 32 := 0#32
  let v38 : BitVec 1 := Scalar.cmpi .ne v37 c0_i32_18
  v38

def k0_off4 (i : grid0.Coords) : Fin 2 → Nat :=
  let arg0 : BitVec 32 := BitVec.ofNat 32 (i 0).val
  let c10_i32_19 : BitVec 32 := 10#32
  let v39 : BitVec 32 := Scalar.subi arg0 c10_i32_19
  let c5120_i32 : BitVec 32 := 5120#32
  let v40 : BitVec 32 := Scalar.muli v39 c5120_i32
  let v41 : Index := Scalar.indexCast v40
  let c0_20 : Index := 0#32
  ![v41.toNat, 0]
def k0_off5 (v6 : BitVec 32) : Fin 2 → Nat :=
  let c0_i32_8 : BitVec 32 := 0#32
  let v12 : BitVec 1 := Scalar.cmpi .sgt v6 c0_i32_8
  let v13 : BitVec 32 := Scalar.extui v12
  let c0_i32_9 : BitVec 32 := 0#32
  let v14 : BitVec 1 := Scalar.cmpi .slt v6 c0_i32_9
  let v15 : BitVec 32 := Scalar.extui v14
  let v16 : BitVec 32 := Scalar.subi v13 v15
  let c16_i32 : BitVec 32 := 16#32
  let c0_i32_10 : BitVec 32 := 0#32
  let v17 : BitVec 1 := Scalar.cmpi .sgt c16_i32 c0_i32_10
  let v18 : BitVec 32 := Scalar.extui v17
  let c0_i32_11 : BitVec 32 := 0#32
  let v19 : BitVec 1 := Scalar.cmpi .slt c16_i32 c0_i32_11
  let v20 : BitVec 32 := Scalar.extui v19
  let v21 : BitVec 32 := Scalar.subi v18 v20
  let v22 : BitVec 1 := Scalar.cmpi .ne v16 v21
  let v23 : BitVec 32 := Scalar.remsi v6 c16_i32
  let c0_i32_12 : BitVec 32 := 0#32
  let v24 : BitVec 1 := Scalar.cmpi .ne v23 c0_i32_12
  let v25 : BitVec 1 := Scalar.andi v22 v24
  let v11 : BitVec 32 := Scalar.divsi v6 c16_i32
  let c1_i32 : BitVec 32 := 1#32
  let v26 : BitVec 32 := Scalar.subi v11 c1_i32
  let v27 : BitVec 32 := Scalar.select v25 v26 v11
  let c16_i32_13 : BitVec 32 := 16#32
  let v28 : BitVec 32 := Scalar.muli v27 c16_i32_13
  let c320_i32 : BitVec 32 := 320#32
  let v29 : BitVec 32 := Scalar.minsi v28 c320_i32
  let v58 : Index := Scalar.indexCast v29
  let c0_23 : Index := 0#32
  ![v58.toNat, 0]
def k0_cond7 (v6 : BitVec 32) (v8 : BitVec 32) : BitVec 1 :=
  let v9 : BitVec 32 := Scalar.subi v8 v6
  let c176_i32 : BitVec 32 := 176#32
  let v10 : BitVec 1 := Scalar.cmpi .slt v9 c176_i32
  let v44 : BitVec 32 := Scalar.extui v10
  let c0_i32_21 : BitVec 32 := 0#32
  let v45 : BitVec 1 := Scalar.cmpi .ne v44 c0_i32_21
  v45

def k0_chk1 (i : grid0.Coords) (v6 : BitVec 32) (v8 : BitVec 32) : Prop :=
  (∀ (k0_h2 : k0_cond2 i = 1#1), ∀ (k0_h3 : k0_cond3 v6 v8 = 1#1), ∀ a, (k0_off2 v6) a + S192x256.size a ≤ S512x256.size a) ∧
  (∀ (k0_h2 : k0_cond2 i = 1#1), ∀ (k0_h3 : k0_cond3 v6 v8 = 1#1), ∀ a, (k0_off3 v6) a + S192x1.size a ≤ S512x1.size a) ∧
  (∀ (k0_h6 : k0_cond6 i = 1#1), ∀ (k0_h7 : k0_cond7 v6 v8 = 1#1), ∀ a, (k0_off5 v6) a + S192x256.size a ≤ S512x256.size a)
theorem k0_off2_inb : ∀ (i : grid0.Coords) (v6 : BitVec 32) (v8 : BitVec 32) (k0_hw1 : k0_chk1 i v6 v8), ∀ (k0_h2 : k0_cond2 i = 1#1), ∀ (k0_h3 : k0_cond3 v6 v8 = 1#1), ∀ a, (k0_off2 v6) a + S192x256.size a ≤ S512x256.size a := fun i v6 v8 k0_hw1 k0_h2 k0_h3 => k0_hw1.1 k0_h2 k0_h3
theorem k0_off3_inb : ∀ (i : grid0.Coords) (v6 : BitVec 32) (v8 : BitVec 32) (k0_hw1 : k0_chk1 i v6 v8), ∀ (k0_h2 : k0_cond2 i = 1#1), ∀ (k0_h3 : k0_cond3 v6 v8 = 1#1), ∀ a, (k0_off3 v6) a + S192x1.size a ≤ S512x1.size a := fun i v6 v8 k0_hw1 k0_h2 k0_h3 => k0_hw1.2.1 k0_h2 k0_h3
theorem k0_off5_inb : ∀ (i : grid0.Coords) (v6 : BitVec 32) (v8 : BitVec 32) (k0_hw1 : k0_chk1 i v6 v8), ∀ (k0_h6 : k0_cond6 i = 1#1), ∀ (k0_h7 : k0_cond7 v6 v8 = 1#1), ∀ a, (k0_off5 v6) a + S192x256.size a ≤ S512x256.size a := fun i v6 v8 k0_hw1 k0_h6 k0_h7 => k0_hw1.2.2 k0_h6 k0_h7

def cc0_transform_0 (i : grid0.Coords) : Fin 3 → Nat :=
  let arg0 : BitVec 32 := BitVec.ofNat 32 (i 0).val
  let c10_i32 : BitVec 32 := 10#32
  let v0 : BitVec 1 := Scalar.cmpi .slt arg0 c10_i32
  let c10_i32_0 : BitVec 32 := 10#32
  let v1 : BitVec 32 := Scalar.subi arg0 c10_i32_0
  let v2 : BitVec 32 := Scalar.select v0 arg0 v1
  let c0_i32 : BitVec 32 := 0#32
  let c0_i32_1 : BitVec 32 := 0#32
  let c0_i32_2 : BitVec 32 := 0#32
  ![v2.toNat, c0_i32.toNat, c0_i32_1.toNat]

def cc0_transform_1 (i : grid0.Coords) : Fin 2 → Nat :=
  let arg0 : BitVec 32 := BitVec.ofNat 32 (i 0).val
  let c10_i32 : BitVec 32 := 10#32
  let v0 : BitVec 1 := Scalar.cmpi .slt arg0 c10_i32
  let c0_i32 : BitVec 32 := 0#32
  let v1 : BitVec 32 := Scalar.select v0 arg0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c10_i32 : BitVec 32 := 10#32
  let v0 : BitVec 1 := Scalar.cmpi .slt arg0 c10_i32
  let c10_i32_0 : BitVec 32 := 10#32
  let v1 : BitVec 32 := Scalar.subi arg0 c10_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

abbrev stage0_0 : Fin 2 → Memref sig .tc .vmem S1x1x5120 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5120x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S50000x256 : Shape := ⟨2, ![50000, 256]⟩
abbrev S256 : Shape := ⟨1, ![256]⟩
abbrev S50000 : Shape := ⟨1, ![50000]⟩
abbrev S_ : Shape := ⟨0, ![]⟩
abbrev S512 : Shape := ⟨1, ![512]⟩
abbrev S50000x1 : Shape := ⟨2, ![50000, 1]⟩
abbrev S512x256 : Shape := ⟨2, ![512, 256]⟩
abbrev S512x1 : Shape := ⟨2, ![512, 1]⟩
abbrev S1x256 : Shape := ⟨2, ![1, 256]⟩

abbrev nBuf : Space → Nat
  | .hbm => 67
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256, .f32⟩
  | .hbm, ⟨2, _⟩ => ⟨S256, .f32⟩
  | .hbm, ⟨3, _⟩ => ⟨S50000, .i32⟩
  | .hbm, ⟨4, _⟩ => ⟨S_, .i32⟩
  | .hbm, ⟨5, _⟩ => ⟨S512, .i32⟩
  | .hbm, ⟨6, _⟩ => ⟨S_, .i32⟩
  | .hbm, ⟨7, _⟩ => ⟨S_, .i32⟩
  | .hbm, ⟨8, _⟩ => ⟨S50000, .i32⟩
  | .hbm, ⟨9, _⟩ => ⟨S50000, .i32⟩
  | .hbm, ⟨10, _⟩ => ⟨S_, .i32⟩
  | .hbm, ⟨11, _⟩ => ⟨S50000, .i32⟩
  | .hbm, ⟨12, _⟩ => ⟨S50000, .i1⟩
  | .hbm, ⟨13, _⟩ => ⟨S_, .i32⟩
  | .hbm, ⟨14, _⟩ => ⟨S50000, .i32⟩
  | .hbm, ⟨15, _⟩ => ⟨S50000, .i32⟩
  | .hbm, ⟨16, _⟩ => ⟨S50000, .i32⟩
  | .hbm, ⟨17, _⟩ => ⟨S50000x1, .i32⟩
  | .hbm, ⟨18, _⟩ => ⟨S_, .i32⟩
  | .hbm, ⟨19, _⟩ => ⟨S50000, .i32⟩
  | .hbm, ⟨20, _⟩ => ⟨S512, .i32⟩
  | .hbm, ⟨21, _⟩ => ⟨S512, .f32⟩
  | .hbm, ⟨22, _⟩ => ⟨S_, .f32⟩
  | .hbm, ⟨23, _⟩ => ⟨S512x256, .f32⟩
  | .hbm, ⟨24, _⟩ => ⟨S50000x1, .i32⟩
  | .hbm, ⟨25, _⟩ => ⟨S512x256, .f32⟩
  | .hbm, ⟨26, _⟩ => ⟨S512x1, .f32⟩
  | .hbm, ⟨27, _⟩ => ⟨S512x256, .f32⟩
  | .hbm, ⟨28, _⟩ => ⟨S512x256, .f32⟩
  | .hbm, ⟨29, _⟩ => ⟨S_, .i32⟩
  | .hbm, ⟨30, _⟩ => ⟨S50000, .i32⟩
  | .hbm, ⟨31, _⟩ => ⟨S50000, .i1⟩
  | .hbm, ⟨32, _⟩ => ⟨S_, .i32⟩
  | .hbm, ⟨33, _⟩ => ⟨S50000, .i32⟩
  | .hbm, ⟨34, _⟩ => ⟨S50000, .i32⟩
  | .hbm, ⟨35, _⟩ => ⟨S50000, .i32⟩
  | .hbm, ⟨36, _⟩ => ⟨S50000x1, .i32⟩
  | .hbm, ⟨37, _⟩ => ⟨S50000x256, .f32⟩
  | .hbm, ⟨38, _⟩ => ⟨S50000x256, .f32⟩
  | .hbm, ⟨39, _⟩ => ⟨S50000x256, .f32⟩
  | .hbm, ⟨40, _⟩ => ⟨S_, .f32⟩
  | .hbm, ⟨41, _⟩ => ⟨S512x256, .f32⟩
  | .hbm, ⟨42, _⟩ => ⟨S50000x1, .i32⟩
  | .hbm, ⟨43, _⟩ => ⟨S512x256, .f32⟩
  | .hbm, ⟨44, _⟩ => ⟨S512x1, .f32⟩
  | .hbm, ⟨45, _⟩ => ⟨S512x256, .f32⟩
  | .hbm, ⟨46, _⟩ => ⟨S512x256, .f32⟩
  | .hbm, ⟨47, _⟩ => ⟨S_, .f32⟩
  | .hbm, ⟨48, _⟩ => ⟨S512x256, .f32⟩
  | .hbm, ⟨49, _⟩ => ⟨S512x256, .f32⟩
  | .hbm, ⟨50, _⟩ => ⟨S512x256, .f32⟩
  | .hbm, ⟨51, _⟩ => ⟨S1x256, .f32⟩
  | .hbm, ⟨52, _⟩ => ⟨S50000x256, .f32⟩
  | .hbm, ⟨53, _⟩ => ⟨S50000x256, .f32⟩
  | .hbm, ⟨54, _⟩ => ⟨S_, .i32⟩
  | .hbm, ⟨55, _⟩ => ⟨S50000, .i32⟩
  | .hbm, ⟨56, _⟩ => ⟨S50000, .i1⟩
  | .hbm, ⟨57, _⟩ => ⟨S_, .i32⟩
  | .hbm, ⟨58, _⟩ => ⟨S50000, .i32⟩
  | .hbm, ⟨59, _⟩ => ⟨S50000, .i32⟩
  | .hbm, ⟨60, _⟩ => ⟨S50000, .i32⟩
  | .hbm, ⟨61, _⟩ => ⟨S50000x1, .i32⟩
  | .hbm, ⟨62, _⟩ => ⟨S50000x256, .f32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_v3 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_c_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Proof.Body.lean ====
module

public import proofs.«01_k».proof.Proof.Gen.KernelIdeal.Skeleton
public import proofs.«01_k».proof.Proof.Gen.KernelIdeal.Frame
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole index block. -/
abbrev whole3 : LoadRect S1x1x5120 := (Rect.unit (s := S1x1x5120) ![0, 0, 0] S1x1x5120.size inb_S1x1x5120_S1x1x5120_0_0_0).toLoadRect
/-- Its first entry. -/
abbrev fst3 : LoadRect S1x1x5120 := (Rect.unit (s := S1x1x5120) ![0, 0, 0] S1x1x1.size inb_S1x1x5120_S1x1x1_0_0_0).toLoadRect
/-- Its last entry. -/
abbrev lst3 : LoadRect S1x1x5120 := (Rect.unit (s := S1x1x5120) ![0, 0, 5119] S1x1x1.size inb_S1x1x5120_S1x1x1_0_0_5119).toLoadRect

/-- The first index of a block of indices. -/
abbrev firstOf (v3 : Vec F S1x1x5120 .i32) : Vec F S1x1x1 .i32 := VecWindow.window v3 ![0, 0, 0] S1x1x1.size inb_S1x1x5120_S1x1x1_0_0_0

/-- The last index of a block of indices, as a vector of one entry. -/
abbrev lastOf (v3 : Vec F S1x1x5120 .i32) : Vec F S1x1x1 .i32 := VecWindow.window v3 ![0, 0, 5119] S1x1x1.size inb_S1x1x5120_S1x1x1_0_0_5119

/-- The word of the first index. -/
abbrev loOf (v3 : Vec F S1x1x5120 .i32) : BitVec 32 := extractAt ![0, 0, 0] (firstOf v3) inpos_S1x1x1_p0_0_0

/-- The word of the last index. -/
abbrev hiOf (v3 : Vec F S1x1x5120 .i32) : BitVec 32 := extractAt ![0, 0, 0] (lastOf v3) inpos_S1x1x1_p0_0_0

/-- The block's indices lie close enough together for the window of 192 rows. -/
def Narrow (v3 : Vec F S1x1x5120 .i32) : Prop := k0_cond3 (loOf v3) (hiOf v3) = 1#1

/-- The `k` rows of `X` that start at the offsets `off`, if they all lie inside. -/
def rowsAt {d n : ℕ} {e : EltTy} (k : ℕ) (X : Vec F ⟨2, ![d, n]⟩ e) (off : Fin 2 → ℕ) : Vec F ⟨2, ![k, n]⟩ e :=
  if h : ∀ a, off a + (⟨2, ![k, n]⟩ : Shape).size a ≤ (⟨2, ![d, n]⟩ : Shape).size a then VecWindow.window X off (⟨2, ![k, n]⟩ : Shape).size h else fun _ => Classical.arbitrary _

/-- A load of rows that lie inside reads them. -/
theorem readAt_rows {κ : Kind} {sp : Space} {d n k : ℕ} {e : EltTy} (v : View sig κ sp ⟨2, ![d, n]⟩ e) (f : v.ty.Contents (Elt F)) (off : Fin 2 → ℕ)
    (inb : ∀ a, off a + (⟨2, ![k, n]⟩ : Shape).size a ≤ (⟨2, ![d, n]⟩ : Shape).size a) :
    v.readAt (Elt F) (Rect.unit (s := ⟨2, ![d, n]⟩) off (⟨2, ![k, n]⟩ : Shape).size inb).toLoadRect f = rowsAt k (v.read (Elt F) f) off := by
  unfold rowsAt
  rw [dif_pos inb]
  rfl

/-- Rows read, changed and written back over the writes `L` leave what `L` left, with the changed rows put there. -/
theorem rows_close {κ : Kind} {sp : Space} {d n k : ℕ} {e : EltTy} (v : View sig κ sp ⟨2, ![d, n]⟩ e) (f f' : v.ty.Contents (Elt F))
    (L : List (View.Piece (Elt F) ⟨2, ![d, n]⟩ e)) (S : Vec F ⟨2, ![d, n]⟩ e) (off : Fin 2 → ℕ)
    (inb : ∀ a, off a + (⟨2, ![k, n]⟩ : Shape).size a ≤ (⟨2, ![d, n]⟩ : Shape).size a)
    (P : Vec F ⟨2, ![k, n]⟩ e → Vec F ⟨2, ![k, n]⟩ e) (h : v.read (Elt F) (v.writes (Elt F) f L) = S) (h' : v.read (Elt F) f' = S) :
    v.read (Elt F) (v.writes (Elt F) f (⟨Rect.unit (s := ⟨2, ![d, n]⟩) off (⟨2, ![k, n]⟩ : Shape).size inb,
        P (v.readAt (Elt F) (Rect.unit (s := ⟨2, ![d, n]⟩) off (⟨2, ![k, n]⟩ : Shape).size inb).toLoadRect f')⟩ :: L))
      = VecWindow.put S off (⟨2, ![k, n]⟩ : Shape).size (P (rowsAt k S off)) := by
  rw [View.read_writes_cons_put v f inb _ L rfl, h, readAt_rows, h']

/-- A whole buffer read, changed and written back. -/
theorem full_close {κ : Kind} {sp : Space} {d n : ℕ} {e : EltTy} (v : View sig κ sp ⟨2, ![d, n]⟩ e) (f f' : v.ty.Contents (Elt F))
    (L : List (View.Piece (Elt F) ⟨2, ![d, n]⟩ e)) (S : Vec F ⟨2, ![d, n]⟩ e) {off off' : Fin 2 → ℕ}
    (inb : ∀ a, off a + (⟨2, ![d, n]⟩ : Shape).size a ≤ (⟨2, ![d, n]⟩ : Shape).size a)
    (inb' : ∀ a, off' a + (⟨2, ![d, n]⟩ : Shape).size a ≤ (⟨2, ![d, n]⟩ : Shape).size a)
    (P : Vec F ⟨2, ![d, n]⟩ e → Vec F ⟨2, ![d, n]⟩ e) (h' : v.read (Elt F) f' = S) :
    v.read (Elt F) (v.writes (Elt F) f (⟨Rect.unit (s := ⟨2, ![d, n]⟩) off (⟨2, ![d, n]⟩ : Shape).size inb,
        P (v.readAt (Elt F) (Rect.unit (s := ⟨2, ![d, n]⟩) off' (⟨2, ![d, n]⟩ : Shape).size inb').toLoadRect f')⟩ :: L)) = P S := by
  rw [View.read_writes_full v f inb _ L, View.readAt_full, h']

open Classical in
/-- The running sums after a block `X` with the indices `v3`. -/
def sumStep (v3 : Vec F S1x1x5120 .i32) (X : Vec F S5120x256 .f32) (S : Vec F S512x256 .f32) : Vec F S512x256 .f32 :=
  if Narrow v3 then VecWindow.put S (k0_off2 (loOf v3)) S192x256.size (k0_pay16 v3 (firstOf v3) X (rowsAt 192 S (k0_off2 (loOf v3)))) else k0_pay20 v3 X S

open Classical in
/-- The running sums of squares after a block `X` with the indices `v3`. -/
def sqStep (v3 : Vec F S1x1x5120 .i32) (X : Vec F S5120x256 .f32) (Q : Vec F S512x256 .f32) : Vec F S512x256 .f32 :=
  if Narrow v3 then VecWindow.put Q (k0_off2 (loOf v3)) S192x256.size (k0_pay17 v3 (firstOf v3) X (rowsAt 192 Q (k0_off2 (loOf v3)))) else k0_pay21 v3 X Q

open Classical in
/-- The running counts after a block with the indices `v3`. -/
def cntStep (v3 : Vec F S1x1x5120 .i32) (N : Vec F S512x1 .f32) : Vec F S512x1 .f32 :=
  if Narrow v3 then VecWindow.put N (k0_off3 (loOf v3)) S192x1.size (k0_pay18 v3 (firstOf v3) (rowsAt 192 N (k0_off3 (loOf v3)))) else k0_pay22 v3 N

/-- The body's first grid point. -/
abbrev condA (i : grid0.Coords) : BitVec 1 := Scalar.cmpi .ne (Scalar.extui (Scalar.cmpi .eq (BitVec.ofNat 32 (i 0).val) 0#32) : BitVec 32) 0#32

/-- The body's first grid point of its second half. -/
abbrev condE (i : grid0.Coords) : BitVec 1 := Scalar.cmpi .ne (Scalar.extui (Scalar.cmpi .eq (BitVec.ofNat 32 (i 0).val) 10#32) : BitVec 32) 0#32

/-- The indices do not lie close together, as the body computes it. -/
abbrev wideWord (v6 v8 : BitVec 32) : BitVec 1 := Scalar.cmpi .ne (Scalar.extui (Scalar.xori (Scalar.cmpi .slt (Scalar.subi v8 v6) 176#32) 1#1) : BitVec 32) 0#32

/-- The body takes the wide way exactly where it does not take the narrow one. -/
theorem wide_iff (v6 v8 : BitVec 32) : wideWord v6 v8 = 1#1 ↔ ¬ k0_cond3 v6 v8 = 1#1 := by
  unfold wideWord k0_cond3
  dsimp only
  generalize Scalar.cmpi .slt (Scalar.subi v8 v6) 176#32 = b
  revert b
  decide

/-- The first row of the window of 192 rows, as the body computes it from the block's first index. -/
def loWord (v6 : BitVec 32) : BitVec 32 :=
  let q : BitVec 32 := Scalar.divsi v6 16#32
  let sv : BitVec 32 := Scalar.subi (Scalar.extui (Scalar.cmpi .sgt v6 0#32)) (Scalar.extui (Scalar.cmpi .slt v6 0#32))
  let sd : BitVec 32 := Scalar.subi (Scalar.extui (Scalar.cmpi .sgt 16#32 0#32)) (Scalar.extui (Scalar.cmpi .slt 16#32 0#32))
  Scalar.minsi (Scalar.muli (Scalar.select (Scalar.andi (Scalar.cmpi .ne sv sd) (Scalar.cmpi .ne (Scalar.remsi v6 16#32) 0#32)) (Scalar.subi q 1#32) q) 16#32) 320#32

set_option maxHeartbeats 400000 in
/-- One point of the first half: the running sums, sums of squares and counts take in the point's block (from zero at the first point), and the
    block is kept in its rows of the copy. -/
theorem runStats (c : Dev nD) (i : grid0.Coords)
    (arg1 : Memref sig .tc .vmem S1x1x5120 .i32) (harg1 : arg1.IsWhole) (arg2 : Memref sig .tc .vmem S5120x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S5120x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x1 .f32) (harg8 : arg8.IsWhole) (arg9 : Memref sig .tc .vmem S512x256 .bf16) (harg9 : arg9.IsWhole)
    (arg10 : Memref sig .tc .vmem S512x256 .bf16) (harg10 : arg10.IsWhole) (arg11 : Memref sig .tc .vmem S51200x256 .bf16) (harg11 : arg11.IsWhole)
    (v3 : Vec F S1x1x5120 .i32) (X : Vec F S5120x256 .f32) (S Q : Vec F S512x256 .f32) (N : Vec F S512x1 .f32) (XC : Vec F S51200x256 .bf16)
    (hchk : k0_chk1 i (loOf v3) (hiOf v3)) (hc2 : k0_cond2 i = 1#1) (hc5 : ¬ condE i = 1#1) (hc6 : ¬ k0_cond6 i = 1#1)
    (K : PUnit → sProp 𝕄) :
    iprop(owns (c : Thread nD τ) arg1 fullShare v3 ∗ owns (c : Thread nD τ) arg2 fullShare X
        ∗ owns (c : Thread nD τ) arg6 fullShare S ∗ owns (c : Thread nD τ) arg7 fullShare Q ∗ owns (c : Thread nD τ) arg8 fullShare N
        ∗ owns (c : Thread nD τ) arg11 fullShare XC
        ∗ (iprop(owns (c : Thread nD τ) arg1 fullShare v3 ∗ owns (c : Thread nD τ) arg2 fullShare X
            ∗ owns (c : Thread nD τ) arg6 fullShare (sumStep v3 X (if condA i = 1#1 then k0_pay9 else S))
            ∗ owns (c : Thread nD τ) arg7 fullShare (sqStep v3 X (if condA i = 1#1 then k0_pay10 else Q))
            ∗ owns (c : Thread nD τ) arg8 fullShare (cntStep v3 (if condA i = 1#1 then k0_pay11 else N))
            ∗ owns (c : Thread nD τ) arg11 fullShare (VecWindow.put XC (k0_off1 i) S5120x256.size (k0_pay14 X))) -∗ K ⟨⟩))
      ⊢ wp frame (wpE (defs₀ (F := F)) Variants.none c none) Set.univ
          (cc0__fused_kernel i arg1 harg1 arg2 harg2 arg3 harg3 arg4 harg4 arg5 harg5 arg6 harg6 arg7 harg7 arg8 harg8 arg9 harg9 arg10 harg10 arg11 harg11) K := by
  simp only [cc0__fused_kernel_eq_skeleton]
  unfold cc0__fused_kernel_skel
  simp only [k0_part1_eq_skeleton]
  unfold k0_part1_skel owns
  iintro ⟨⟨%f1, %h1, H1⟩, ⟨%f2, %h2, H2⟩, ⟨%f6, %h6, H6⟩, ⟨%f7, %h7, H7⟩, ⟨%f8, %h8, H8⟩, ⟨%f11, %h11, H11⟩, Hk⟩
  subst h1 h2 h6 h7 h8 h11
  have hchk' : k0_chk1 i (extractAt ![0, 0, 0] (arg1.view.readAt (Elt F) fst3 f1) inpos_S1x1x1_p0_0_0) (extractAt ![0, 0, 0] (arg1.view.readAt (Elt F) lst3 f1) inpos_S1x1x1_p0_0_0) := hchk
  have e1 := View.readAt_full (Val := Elt F) arg1.view f1 inb_S1x1x5120_S1x1x5120_0_0_0
  have e2 := View.readAt_full (Val := Elt F) arg2.view f2 inb_S5120x256_S5120x256_0_0
  by_cases hA : condA i = 1#1 <;> by_cases hn : Narrow (arg1.view.read (Elt F) f1)
  all_goals
    first
    | have hc3 : k0_cond3 (extractAt ![0, 0, 0] (arg1.view.readAt (Elt F) fst3 f1) inpos_S1x1x1_p0_0_0) (extractAt ![0, 0, 0] (arg1.view.readAt (Elt F) lst3 f1) inpos_S1x1x1_p0_0_0) = 1#1 := hn
      have hw : ¬ wideWord (extractAt ![0, 0, 0] (arg1.view.readAt (Elt F) fst3 f1) inpos_S1x1x1_p0_0_0) (extractAt ![0, 0, 0] (arg1.view.readAt (Elt F) lst3 f1) inpos_S1x1x1_p0_0_0) = 1#1 :=
        fun h => (wide_iff _ _).mp h hn
    | have hc3 : ¬ k0_cond3 (extractAt ![0, 0, 0] (arg1.view.readAt (Elt F) fst3 f1) inpos_S1x1x1_p0_0_0) (extractAt ![0, 0, 0] (arg1.view.readAt (Elt F) lst3 f1) inpos_S1x1x1_p0_0_0) = 1#1 := hn
      have hw : wideWord (extractAt ![0, 0, 0] (arg1.view.readAt (Elt F) fst3 f1) inpos_S1x1x1_p0_0_0) (extractAt ![0, 0, 0] (arg1.view.readAt (Elt F) lst3 f1) inpos_S1x1x1_p0_0_0) = 1#1 :=
        (wide_iff _ _).mpr hn
    sl_exec
    sl_step
    iapply Hk
    isplitl [H1]
    · iexists f1; isplitr; · ipureintro; rfl
      iexact H1
    isplitl [H2]
    · iexists f2; isplitr; · ipureintro; rfl
      iexact H2
    isplitl [H6]
    · iexists _; isplitr; swap; · iexact H6
      ipureintro
      unfold sumStep
      try rw [e1]
      try rw [e2]
      first
      | rw [if_pos hn, if_pos hA]
        exact rows_close (k := 192) (d := 512) (n := 256) arg6.view arg6.view.junk _ _ _ _ (k0_off2_inb i _ _ hchk hc2 hn) (k0_pay16 _ _ _) (View.read_writes_full _ _ _ _ _) (View.read_writes_full _ _ _ _ _)
      | rw [if_pos hn, if_neg hA]
        exact rows_close (k := 192) (d := 512) (n := 256) arg6.view f6 f6 [] _ _ (k0_off2_inb i _ _ hchk hc2 hn) (k0_pay16 _ _ _) rfl rfl
      | rw [if_neg hn, if_pos hA]
        exact full_close (d := 512) (n := 256) arg6.view _ _ _ _ inb_S512x256_S512x256_0_0 inb_S512x256_S512x256_0_0 (k0_pay20 _ _) (View.read_writes_full _ _ _ _ _)
      | rw [if_neg hn, if_neg hA]
        exact full_close (d := 512) (n := 256) arg6.view _ f6 _ _ inb_S512x256_S512x256_0_0 inb_S512x256_S512x256_0_0 (k0_pay20 _ _) rfl
    isplitl [H7]
    · iexists _; isplitr; swap; · iexact H7
      ipureintro
      unfold sqStep
      try rw [e1]
      try rw [e2]
      first
      | rw [if_pos hn, if_pos hA]
        exact rows_close (k := 192) (d := 512) (n := 256) arg7.view arg7.view.junk _ _ _ _ (k0_off2_inb i _ _ hchk hc2 hn) (k0_pay17 _ _ _) (View.read_writes_full _ _ _ _ _) (View.read_writes_full _ _ _ _ _)
      | rw [if_pos hn, if_neg hA]
        exact rows_close (k := 192) (d := 512) (n := 256) arg7.view f7 f7 [] _ _ (k0_off2_inb i _ _ hchk hc2 hn) (k0_pay17 _ _ _) rfl rfl
      | rw [if_neg hn, if_pos hA]
        exact full_close (d := 512) (n := 256) arg7.view _ _ _ _ inb_S512x256_S512x256_0_0 inb_S512x256_S512x256_0_0 (k0_pay21 _ _) (View.read_writes_full _ _ _ _ _)
      | rw [if_neg hn, if_neg hA]
        exact full_close (d := 512) (n := 256) arg7.view _ f7 _ _ inb_S512x256_S512x256_0_0 inb_S512x256_S512x256_0_0 (k0_pay21 _ _) rfl
    isplitl [H8]
    · iexists _; isplitr; swap; · iexact H8
      ipureintro
      unfold cntStep
      try rw [e1]
      first
      | rw [if_pos hn, if_pos hA]
        exact rows_close (k := 192) (d := 512) (n := 1) arg8.view arg8.view.junk _ _ _ _ (k0_off3_inb i _ _ hchk hc2 hn) (k0_pay18 _ _) (View.read_writes_full _ _ _ _ _) (View.read_writes_full _ _ _ _ _)
      | rw [if_pos hn, if_neg hA]
        exact rows_close (k := 192) (d := 512) (n := 1) arg8.view f8 f8 [] _ _ (k0_off3_inb i _ _ hchk hc2 hn) (k0_pay18 _ _) rfl rfl
      | rw [if_neg hn, if_pos hA]
        exact full_close (d := 512) (n := 1) arg8.view _ _ _ _ inb_S512x1_S512x1_0_0 inb_S512x1_S512x1_0_0 (k0_pay22 _) (View.read_writes_full _ _ _ _ _)
      | rw [if_neg hn, if_neg hA]
        exact full_close (d := 512) (n := 1) arg8.view _ f8 _ _ inb_S512x1_S512x1_0_0 inb_S512x1_S512x1_0_0 (k0_pay22 _) rfl
    iexists _; isplitr; swap; · iexact H11
    ipureintro
    try rw [e2]
    exact View.read_writes_cons_put _ _ _ _ _ rfl

open Classical in
/-- The block of results a point of the second half writes, from its indices, the copy of the input at its rows, and the two tables. -/
def outOf (v3 : Vec F S1x1x5120 .i32) (XB : Vec F S5120x256 .bf16) (SC SH : Vec F S512x256 .bf16) : Vec F S5120x256 .f32 :=
  if Narrow v3 then k0_pay7 (k0_pay12 v3) (loWord (loOf v3)) XB (rowsAt 192 SC (k0_off5 (loOf v3))) (rowsAt 192 SH (k0_off5 (loOf v3)))
  else k0_pay8 (k0_pay12 v3) XB SC SH

set_option maxHeartbeats 400000 in
/-- One point of the second half: the two tables are made from the totals at its first point, and the point's block of results is written. -/
theorem runNorm (c : Dev nD) (i : grid0.Coords)
    (arg1 : Memref sig .tc .vmem S1x1x5120 .i32) (harg1 : arg1.IsWhole) (arg2 : Memref sig .tc .vmem S5120x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S5120x256 .f32) (harg5 : arg5.IsWhole)
    (arg6 : Memref sig .tc .vmem S512x256 .f32) (harg6 : arg6.IsWhole) (arg7 : Memref sig .tc .vmem S512x256 .f32) (harg7 : arg7.IsWhole)
    (arg8 : Memref sig .tc .vmem S512x1 .f32) (harg8 : arg8.IsWhole) (arg9 : Memref sig .tc .vmem S512x256 .bf16) (harg9 : arg9.IsWhole)
    (arg10 : Memref sig .tc .vmem S512x256 .bf16) (harg10 : arg10.IsWhole) (arg11 : Memref sig .tc .vmem S51200x256 .bf16) (harg11 : arg11.IsWhole)
    (v3 : Vec F S1x1x5120 .i32) (w b : Vec F S1x256 .f32) (O : Vec F S5120x256 .f32) (S Q : Vec F S512x256 .f32) (N : Vec F S512x1 .f32)
    (SC SH : Vec F S512x256 .bf16) (XC : Vec F S51200x256 .bf16)
    (hchk : k0_chk1 i (loOf v3) (hiOf v3)) (hc1 : ¬ condA i = 1#1) (hc2 : ¬ k0_cond2 i = 1#1) (hc6 : k0_cond6 i = 1#1)
    (K : PUnit → sProp 𝕄) :
    iprop(owns (c : Thread nD τ) arg1 fullShare v3
        ∗ owns (c : Thread nD τ) arg3 fullShare w
        ∗ owns (c : Thread nD τ) arg4 fullShare b
        ∗ owns (c : Thread nD τ) arg5 fullShare O
        ∗ owns (c : Thread nD τ) arg6 fullShare S
        ∗ owns (c : Thread nD τ) arg7 fullShare Q
        ∗ owns (c : Thread nD τ) arg8 fullShare N
        ∗ owns (c : Thread nD τ) arg9 fullShare SC
        ∗ owns (c : Thread nD τ) arg10 fullShare SH
        ∗ owns (c : Thread nD τ) arg11 fullShare XC
        ∗ (iprop(owns (c : Thread nD τ) arg1 fullShare v3
        ∗ owns (c : Thread nD τ) arg3 fullShare w
        ∗ owns (c : Thread nD τ) arg4 fullShare b
        ∗ owns (c : Thread nD τ) arg5 fullShare (outOf v3 (rowsAt 5120 XC (k0_off4 i)) (if condE i = 1#1 then k0_pay4 N S Q w else SC) (if condE i = 1#1 then k0_pay5 N S Q w b else SH))
        ∗ owns (c : Thread nD τ) arg6 fullShare S
        ∗ owns (c : Thread nD τ) arg7 fullShare Q
        ∗ owns (c : Thread nD τ) arg8 fullShare N
        ∗ owns (c : Thread nD τ) arg9 fullShare (if condE i = 1#1 then k0_pay4 N S Q w else SC)
        ∗ owns (c : Thread nD τ) arg10 fullShare (if condE i = 1#1 then k0_pay5 N S Q w b else SH)
        ∗ owns (c : Thread nD τ) arg11 fullShare XC) -∗ K ⟨⟩))
      ⊢ wp frame (wpE (defs₀ (F := F)) Variants.none c none) Set.univ
          (cc0__fused_kernel i arg1 harg1 arg2 harg2 arg3 harg3 arg4 harg4 arg5 harg5 arg6 harg6 arg7 harg7 arg8 harg8 arg9 harg9 arg10 harg10 arg11 harg11) K := by
  simp only [cc0__fused_kernel_eq_skeleton]
  unfold cc0__fused_kernel_skel
  simp only [k0_part1_eq_skeleton]
  unfold k0_part1_skel owns
  iintro ⟨⟨%f1, %h1, H1⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, Hk⟩
  subst h1 h3 h4 h5 h6 h7 h8 h9 h10 h11
  have hchk' : k0_chk1 i (extractAt ![0, 0, 0] (arg1.view.readAt (Elt F) fst3 f1) inpos_S1x1x1_p0_0_0) (extractAt ![0, 0, 0] (arg1.view.readAt (Elt F) lst3 f1) inpos_S1x1x1_p0_0_0) := hchk
  have e1 := View.readAt_full (Val := Elt F) arg1.view f1 inb_S1x1x5120_S1x1x5120_0_0_0
  have e3 := View.readAt_full (Val := Elt F) arg3.view f3 inb_S1x256_S1x256_0_0
  have e4 := View.readAt_full (Val := Elt F) arg4.view f4 inb_S1x256_S1x256_0_0
  have e6 := View.readAt_full (Val := Elt F) arg6.view f6 inb_S512x256_S512x256_0_0
  have e7 := View.readAt_full (Val := Elt F) arg7.view f7 inb_S512x256_S512x256_0_0
  have e8 := View.readAt_full (Val := Elt F) arg8.view f8 inb_S512x1_S512x1_0_0
  by_cases hE : condE i = 1#1 <;> by_cases hn : Narrow (arg1.view.read (Elt F) f1)
  all_goals
    first
    | have hc3 : k0_cond3 (extractAt ![0, 0, 0] (arg1.view.readAt (Elt F) fst3 f1) inpos_S1x1x1_p0_0_0) (extractAt ![0, 0, 0] (arg1.view.readAt (Elt F) lst3 f1) inpos_S1x1x1_p0_0_0) = 1#1 := hn
      have hc7 : k0_cond7 (extractAt ![0, 0, 0] (arg1.view.readAt (Elt F) fst3 f1) inpos_S1x1x1_p0_0_0) (extractAt ![0, 0, 0] (arg1.view.readAt (Elt F) lst3 f1) inpos_S1x1x1_p0_0_0) = 1#1 := hn
      have hw : ¬ wideWord (extractAt ![0, 0, 0] (arg1.view.readAt (Elt F) fst3 f1) inpos_S1x1x1_p0_0_0) (extractAt ![0, 0, 0] (arg1.view.readAt (Elt F) lst3 f1) inpos_S1x1x1_p0_0_0) = 1#1 :=
        fun h => (wide_iff _ _).mp h hn
    | have hc3 : ¬ k0_cond3 (extractAt ![0, 0, 0] (arg1.view.readAt (Elt F) fst3 f1) inpos_S1x1x1_p0_0_0) (extractAt ![0, 0, 0] (arg1.view.readAt (Elt F) lst3 f1) inpos_S1x1x1_p0_0_0) = 1#1 := hn
      have hc7 : ¬ k0_cond7 (extractAt ![0, 0, 0] (arg1.view.readAt (Elt F) fst3 f1) inpos_S1x1x1_p0_0_0) (extractAt ![0, 0, 0] (arg1.view.readAt (Elt F) lst3 f1) inpos_S1x1x1_p0_0_0) = 1#1 := hn
      have hw : wideWord (extractAt ![0, 0, 0] (arg1.view.readAt (Elt F) fst3 f1) inpos_S1x1x1_p0_0_0) (extractAt ![0, 0, 0] (arg1.view.readAt (Elt F) lst3 f1) inpos_S1x1x1_p0_0_0) = 1#1 :=
        (wide_iff _ _).mpr hn
    sl_exec (disch := first | (dsimp only; guard_target = k0_cond7 _ _ = 1#1; exact hc7) | (dsimp only; guard_target = ¬ k0_cond7 _ _ = 1#1; exact hc7) | (dsimp only; guard_target = Scalar.cmpi .ne (Scalar.extui (Scalar.xori _ 1#1) : BitVec 32) 0#32 = 1#1; exact hw) | (dsimp only; guard_target = ¬ Scalar.cmpi .ne (Scalar.extui (Scalar.xori _ 1#1) : BitVec 32) 0#32 = 1#1; exact hw))
    sl_step
    iapply Hk
    isplitl [H1]
    · iexists f1; isplitr; · ipureintro; rfl
      iexact H1
    isplitl [H3]
    · iexists f3; isplitr; · ipureintro; rfl
      iexact H3
    isplitl [H4]
    · iexists f4; isplitr; · ipureintro; rfl
      iexact H4
    isplitl [H5]
    · iexists _; isplitr; swap; · iexact H5
      ipureintro
      unfold outOf
      have h11 := readAt_rows arg11.view f11 _ (k0_off4_inb i hc6)
      first
      | rw [if_pos hn, if_pos hE, if_pos hE]
        refine (View.read_writes_full _ _ _ _ _).trans ?_
        have h9 := fun (g : arg9.view.ty.Contents (Elt F)) p L => (readAt_rows arg9.view (arg9.view.writes (Elt F) g (⟨_, p⟩ :: L)) _ (k0_off5_inb i _ _ hchk hc6 hn)).trans (congrArg (rowsAt 192 · _) (View.read_writes_full arg9.view g inb_S512x256_S512x256_0_0 p L))
        have h10 := fun (g : arg10.view.ty.Contents (Elt F)) p L => (readAt_rows arg10.view (arg10.view.writes (Elt F) g (⟨_, p⟩ :: L)) _ (k0_off5_inb i _ _ hchk hc6 hn)).trans (congrArg (rowsAt 192 · _) (View.read_writes_full arg10.view g inb_S512x256_S512x256_0_0 p L))
        exact congr (congr (congrArg (k0_pay7 _ _) h11) (h9 _ _ _)) (h10 _ _ _)
      | rw [if_pos hn, if_neg hE, if_neg hE]
        refine (View.read_writes_full _ _ _ _ _).trans ?_
        have h9 := readAt_rows arg9.view f9 _ (k0_off5_inb i _ _ hchk hc6 hn)
        have h10 := readAt_rows arg10.view f10 _ (k0_off5_inb i _ _ hchk hc6 hn)
        exact congr (congr (congrArg (k0_pay7 _ _) h11) h9) h10
      | rw [if_neg hn, if_pos hE, if_pos hE]
        refine (View.read_writes_full _ _ _ _ _).trans ?_
        have h9 := fun (g : arg9.view.ty.Contents (Elt F)) p L => View.readAt_writes_full arg9.view g inb_S512x256_S512x256_0_0 inb_S512x256_S512x256_0_0 p L
        have h10 := fun (g : arg10.view.ty.Contents (Elt F)) p L => View.readAt_writes_full arg10.view g inb_S512x256_S512x256_0_0 inb_S512x256_S512x256_0_0 p L
        exact congr (congr (congrArg (k0_pay8 _) h11) (h9 _ _ _)) (h10 _ _ _)
      | rw [if_neg hn, if_neg hE, if_neg hE]
        refine (View.read_writes_full _ _ _ _ _).trans ?_
        have h9 := View.readAt_full arg9.view f9 inb_S512x256_S512x256_0_0
        have h10 := View.readAt_full arg10.view f10 inb_S512x256_S512x256_0_0
        exact congr (congr (congrArg (k0_pay8 _) h11) h9) h10
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists _; isplitr; swap; · iexact H9
      ipureintro
      first
      | rw [if_neg hE]
      | rw [if_pos hE]
        exact View.read_writes_full _ _ _ _ _
    isplitl [H10]
    · iexists _; isplitr; swap; · iexact H10
      ipureintro
      first
      | rw [if_neg hE]
      | rw [if_pos hE]
        exact View.read_writes_full _ _ _ _ _
    iexists f11; isplitr; · ipureintro; rfl
    iexact H11

end Cert.KernelIdeal.Hand
end
-- ==== Proof.Frames.lean ====
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers hold before each point -/

/-- The grid point of a number. -/
def pt (k : ℕ) : Fin cfg0.N := ⟨k % 20, by rw [show cfg0.N = 20 from N_0]; omega⟩

/-- A grid point is the point of its own number. -/
theorem pt_val (t : Fin cfg0.N) : pt t.val = t :=
  Fin.ext (Nat.mod_eq_of_lt (lt_of_lt_of_eq t.isLt N_0))

/-- The indices the body sees at point `k`. -/
abbrev idxB (c : Dev nD) (k : ℕ) : Vec F S1x1x5120 .i32 := iblk m c 0 (pt k)
/-- The nodes the body sees at point `k`. -/
abbrev xB (c : Dev nD) (k : ℕ) : Vec F S5120x256 .f32 := iblk m c 1 (pt k)
/-- The weight the body sees at point `k`. -/
abbrev wB (c : Dev nD) (k : ℕ) : Vec F S1x256 .f32 := iblk m c 2 (pt k)
/-- The bias the body sees at point `k`. -/
abbrev bB (c : Dev nD) (k : ℕ) : Vec F S1x256 .f32 := iblk m c 3 (pt k)

/-- The sums after the first `k` blocks. -/
def accS (c : Dev nD) : ℕ → Vec F S512x256 .f32
  | 0 => k0_pay9
  | k + 1 => sumStep (idxB m c k) (xB m c k) (accS c k)
/-- The sums of squares after the first `k` blocks. -/
def accQ (c : Dev nD) : ℕ → Vec F S512x256 .f32
  | 0 => k0_pay10
  | k + 1 => sqStep (idxB m c k) (xB m c k) (accQ c k)
/-- The counts after the first `k` blocks. -/
def accN (c : Dev nD) : ℕ → Vec F S512x1 .f32
  | 0 => k0_pay11
  | k + 1 => cntStep (idxB m c k) (accN c k)

/-- The table of scales. -/
def scFin (c : Dev nD) : Vec F S512x256 .bf16 := k0_pay4 (accN m c 10) (accS m c 10) (accQ m c 10) (wB m c 10)
/-- The table of shifts. -/
def shFin (c : Dev nD) : Vec F S512x256 .bf16 := k0_pay5 (accN m c 10) (accS m c 10) (accQ m c 10) (wB m c 10) (bB m c 10)

/-- What the body leaves in the block of results at point `t` of the second half. -/
def outAt (c : Dev nD) (t : ℕ) : Vec F S5120x256 .f32 := outOf (idxB m c t) (k0_pay14 (xB m c (t - 10))) (scFin m c) (shFin m c)

/-- What is known of the scratch buffers before point `n`: from the second point on the three totals are those of the blocks so far, from the
    twelfth on the two tables are made, and the copy holds the blocks so far. -/
structure Inv (c : Dev nD) (n : ℕ) (S Q : Vec F S512x256 .f32) (N : Vec F S512x1 .f32) (SC SH : Vec F S512x256 .bf16) (XC : Vec F S51200x256 .bf16) : Prop where
  sum : 1 ≤ n → S = accS m c (min n 10)
  sq : 1 ≤ n → Q = accQ m c (min n 10)
  cnt : 1 ≤ n → N = accN m c (min n 10)
  sc : 11 ≤ n → SC = scFin m c
  sh : 11 ≤ n → SH = shFin m c
  copy : ∀ j < min n 10, rowsAt 5120 XC ![5120 * j, 0] = k0_pay14 (xB m c j)

/-- The table of sums. -/
abbrev sM0 : Memref sig .tc .vmem S512x256 .f32 := Memref.whole cc0_scratch0
/-- The table of sums of squares. -/
abbrev sM1 : Memref sig .tc .vmem S512x256 .f32 := Memref.whole cc0_scratch1
/-- The table of counts. -/
abbrev sM2 : Memref sig .tc .vmem S512x1 .f32 := Memref.whole cc0_scratch2
/-- The table of scales. -/
abbrev sM3 : Memref sig .tc .vmem S512x256 .bf16 := Memref.whole cc0_scratch3
/-- The table of shifts. -/
abbrev sM4 : Memref sig .tc .vmem S512x256 .bf16 := Memref.whole cc0_scratch4
/-- The copy of the nodes. -/
abbrev sM5 : Memref sig .tc .vmem S51200x256 .bf16 := Memref.whole cc0_scratch5

/-- The scratch buffers before point `n`. -/
def PhiS (c : Dev nD) (n : ℕ) : sProp 𝕄 :=
  iprop(∃ (S Q : Vec F S512x256 .f32) (N : Vec F S512x1 .f32) (SC SH : Vec F S512x256 .bf16) (XC : Vec F S51200x256 .bf16),
    ⌜Inv m c n S Q N SC SH XC⌝
      ∗ owns (c : Thread nD τ) sM0 fullShare S ∗ owns (c : Thread nD τ) sM1 fullShare Q ∗ owns (c : Thread nD τ) sM2 fullShare N
      ∗ owns (c : Thread nD τ) sM3 fullShare SC ∗ owns (c : Thread nD τ) sM4 fullShare SH ∗ owns (c : Thread nD τ) sM5 fullShare XC
      ∗ ∃ r, prngReg c r)

/-- The proof data: the inputs stay, the results are `outAt`, the scratch is `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val
    | ⟨n + 5, h⟩ => absurd h (Nat.not_lt.2 (Nat.le_add_left _ _))
  Φ t := PhiS m c t.val
  q _ := fullShare
  owed _ := 0

/-- A window's array is what the host left in it. -/
theorem A_eq (c : Dev nD) (w : Fin cfg0.W) : (dats m 0 c).A w = V m c (Pipeline.arrRef spec0 w) := by dsimp only [dats]
/-- The body leaves the index block as it found it. -/
theorem after_0 (c : Dev nD) (t : Fin cfg0.N) : (dats m 0 c).after 0 t = iblk m c 0 t := by dsimp only [dats]
/-- It leaves the node block. -/
theorem after_1 (c : Dev nD) (t : Fin cfg0.N) : (dats m 0 c).after 1 t = iblk m c 1 t := by dsimp only [dats]
/-- It leaves the weight. -/
theorem after_2 (c : Dev nD) (t : Fin cfg0.N) : (dats m 0 c).after 2 t = iblk m c 2 t := by dsimp only [dats]
/-- It leaves the bias. -/
theorem after_3 (c : Dev nD) (t : Fin cfg0.N) : (dats m 0 c).after 3 t = iblk m c 3 t := by dsimp only [dats]
/-- It leaves the result's block at the point's value. -/
theorem after_4 (c : Dev nD) (t : Fin cfg0.N) : (dats m 0 c).after 4 t = outAt m c t.val := by dsimp only [dats]
/-- The body finds the index block. -/
theorem before_0 (c : Dev nD) (t : Fin cfg0.N) (d) : (dats m 0 c).before 0 t d = iblk m c 0 t := before0_0_of m (dats m 0 c) (A_eq m c 0) (after_0 m c) t d
/-- It finds the node block. -/
theorem before_1 (c : Dev nD) (t : Fin cfg0.N) (d) : (dats m 0 c).before 1 t d = iblk m c 1 t := before0_1_of m (dats m 0 c) (A_eq m c 1) (after_1 m c) t d
/-- It finds the weight. -/
theorem before_2 (c : Dev nD) (t : Fin cfg0.N) (d) : (dats m 0 c).before 2 t d = iblk m c 2 t := before0_2_of m (dats m 0 c) (A_eq m c 2) (after_2 m c) t d
/-- It finds the bias. -/
theorem before_3 (c : Dev nD) (t : Fin cfg0.N) (d) : (dats m 0 c).before 3 t d = iblk m c 3 t := before0_3_of m (dats m 0 c) (A_eq m c 3) (after_3 m c) t d
/-- What is held before a point. -/
theorem Phi_castSucc (c : Dev nD) (t : Fin cfg0.N) : (dats m 0 c).Φ t.castSucc = PhiS m c t.val := by
  dsimp only [dats]; exact Dat.Φ_castSucc (fun n _ => PhiS m c n) t
/-- What is held after a point. -/
theorem Phi_succ (c : Dev nD) (t : Fin cfg0.N) : (dats m 0 c).Φ t.succ = PhiS m c (t.val + 1) := by
  dsimp only [dats]; rfl

/-! ## The body's branches, by the point's number -/

/-- The first ten points gather the statistics. -/
theorem cond2_iff : ∀ t : Fin grid0.N, k0_cond2 (grid0.coords t) = 1#1 ↔ t.val < 10 := by decide +kernel
/-- The others write the result. -/
theorem cond6_iff : ∀ t : Fin grid0.N, k0_cond6 (grid0.coords t) = 1#1 ↔ ¬ t.val < 10 := by decide +kernel
/-- The tables are cleared at the first point alone. -/
theorem condA_iff : ∀ t : Fin grid0.N, condA (grid0.coords t) = 1#1 ↔ t.val = 0 := by decide +kernel
/-- The scales and shifts are prepared at point 10 alone. -/
theorem condE_iff : ∀ t : Fin grid0.N, condE (grid0.coords t) = 1#1 ↔ t.val = 10 := by decide +kernel
/-- Where the copy of the nodes is written. -/
theorem off1_eq : ∀ t : Fin grid0.N, t.val < 10 → k0_off1 (grid0.coords t) = ![5120 * t.val, 0] := by decide +kernel
/-- Where the copy of the nodes is read. -/
theorem off4_eq : ∀ t : Fin grid0.N, ¬ t.val < 10 → k0_off4 (grid0.coords t) = ![5120 * (t.val - 10), 0] := by decide +kernel
/-- The result's block is written back after each of the last ten points. -/
theorem flush4 : ∀ t : Fin grid0.N, win0_4.flush t = !decide (t.val < 10) := by decide +kernel
/-- The result's block is not touched at the first ten points. -/
theorem idle4 : ∀ t : Fin grid0.N, idle0 4 (grid0.coords t) = decide (t.val < 10) := by decide +kernel

/-! ## How the invariant moves -/

/-- Rows put in place are read back. -/
theorem rowsAt_put_same {d n k : ℕ} {e : EltTy} (X : Vec F ⟨2, ![d, n]⟩ e) (off : Fin 2 → ℕ) (w : Vec F ⟨2, ![k, n]⟩ e)
    (h : ∀ a, off a + (⟨2, ![k, n]⟩ : Shape).size a ≤ (⟨2, ![d, n]⟩ : Shape).size a) :
    rowsAt k (VecWindow.put X off (⟨2, ![k, n]⟩ : Shape).size w) off = w := by
  unfold rowsAt; rw [dif_pos h]; exact VecWindow.window_put_same X off _ h w

/-- Rows apart from the ones put in place are as they were. -/
theorem rowsAt_put_apart {d n k : ℕ} {e : EltTy} (X : Vec F ⟨2, ![d, n]⟩ e) (o o' : ℕ) (w : Vec F ⟨2, ![k, n]⟩ e)
    (h : o + k ≤ o' ∨ o' + k ≤ o) :
    rowsAt k (VecWindow.put X ![o, 0] (⟨2, ![k, n]⟩ : Shape).size w) ![o', 0] = rowsAt k X ![o', 0] := by
  unfold rowsAt
  split
  · exact VecWindow.window_put_of_disjoint X _ _ _ _ ‹_› w 0 (by first | exact h | exact h.symm)
  · rfl

/-- A point that gathers statistics keeps the invariant. -/
theorem inv_stats (c : Dev nD) (t : ℕ) (ht : t < 10) {S Q N SC SH XC} (h : Inv m c t S Q N SC SH XC) :
    Inv m c (t + 1) (sumStep (idxB m c t) (xB m c t) (if t = 0 then k0_pay9 else S)) (sqStep (idxB m c t) (xB m c t) (if t = 0 then k0_pay10 else Q))
      (cntStep (idxB m c t) (if t = 0 then k0_pay11 else N)) SC SH (VecWindow.put XC ![5120 * t, 0] S5120x256.size (k0_pay14 (xB m c t))) := by
  have hmin : min (t + 1) 10 = t + 1 := by omega
  have hmin' : min t 10 = t := by omega
  refine ⟨fun _ => ?_, fun _ => ?_, fun _ => ?_, fun h => by omega, fun h => by omega, fun j hj => ?_⟩
  · rw [hmin, accS]; congr 1
    split
    · subst t; rfl
    · rw [h.sum (by omega), hmin']
  · rw [hmin, accQ]; congr 1
    split
    · subst t; rfl
    · rw [h.sq (by omega), hmin']
  · rw [hmin, accN]; congr 1
    split
    · subst t; rfl
    · rw [h.cnt (by omega), hmin']
  · rw [hmin] at hj
    rcases Nat.lt_succ_iff_lt_or_eq.mp hj with hj' | rfl
    · exact (rowsAt_put_apart XC (5120 * t) (5120 * j) _ (by omega)).trans (h.copy j (by omega))
    · refine rowsAt_put_same XC _ _ ?_
      intro a; fin_cases a
      · show 5120 * j + 5120 ≤ 51200; omega
      · show 0 + 256 ≤ 256; omega

/-- A point that writes the result keeps the invariant. -/
theorem inv_norm (c : Dev nD) (t : ℕ) (ht : ¬ t < 10) {S Q N SC SH XC} (h : Inv m c t S Q N SC SH XC) :
    Inv m c (t + 1) S Q N (if t = 10 then k0_pay4 N S Q (wB m c t) else SC) (if t = 10 then k0_pay5 N S Q (wB m c t) (bB m c t) else SH) XC
      ∧ (if t = 10 then k0_pay4 N S Q (wB m c t) else SC) = scFin m c
      ∧ (if t = 10 then k0_pay5 N S Q (wB m c t) (bB m c t) else SH) = shFin m c := by
  have hmin : min (t + 1) 10 = 10 := by omega
  have hmin' : min t 10 = 10 := by omega
  have hS := h.sum (by omega); have hQ := h.sq (by omega); have hN := h.cnt (by omega)
  have hc := h.copy
  rw [hmin'] at hS hQ hN hc
  have e1 : (if t = 10 then k0_pay4 N S Q (wB m c t) else SC) = scFin m c := by
    split
    · rw [hS, hQ, hN]; subst t; rfl
    · exact h.sc (by omega)
  have e2 : (if t = 10 then k0_pay5 N S Q (wB m c t) (bB m c t) else SH) = shFin m c := by
    split
    · rw [hS, hQ, hN]; subst t; rfl
    · exact h.sh (by omega)
  refine ⟨⟨fun _ => by rw [hmin]; exact hS, fun _ => by rw [hmin]; exact hQ, fun _ => by rw [hmin]; exact hN, fun _ => e1, fun _ => e2, fun j hj => hc j (by omega)⟩, e1, e2⟩

/-! ## The body obligation -/

/-- At every point the window of 192 rows the body opens lies inside the tables. -/
def Chk (c : Dev nD) : Prop := ∀ t : Fin cfg0.N, k0_chk1 (grid0.coords t) (loOf (iblk m c 0 t)) (hiOf (iblk m c 0 t))

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- What the body leaves at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- At the first ten points the result's block is left alone. -/
theorem leaves4_idle (c : Dev nD) (t : Fin cfg0.N) (ht : t.val < 10) :
    (dats m 0 c).leavesExact 4 t = iprop(∃ d, owns (c : Thread nD τ) (st0_4 t) fullShare ((dats m 0 c).before 4 t d)) :=
  (dats m 0 c).leavesExact_idle 4 t ((idle4 t).trans (decide_eq_true ht)) ((flush4 t).trans (by rw [decide_eq_true ht]; rfl))
/-- At the last ten points the result's block is left at the point's value. -/
theorem leaves4_live (c : Dev nD) (t : Fin cfg0.N) (ht : ¬ t.val < 10) :
    (dats m 0 c).leavesExact 4 t = owns (c : Thread nD τ) (st0_4 t) fullShare ((dats m 0 c).after 4 t) := by
  unfold Dat.leavesExact
  rw [show cfg0.idle 4 (cfg0.grid.coords t) = false from (idle4 t).trans (decide_eq_false ht)]

set_option maxHeartbeats 400000 in
/-- The body's run at a point that gathers statistics. -/
theorem sound_stats (c : Dev nD) (hchk : Chk m c) (t : Fin cfg0.N) (ht : t.val < 10) :
    bodyPre m c t ⊢ wp frame (wpE (defs₀ (F := F)) Variants.none c none) Set.univ (bodyAt0 t) (fun _ => bodyPost m c t) := by
  unfold bodyPre bodyPost bodyAt0
  rw [Phi_castSucc, Phi_succ, leaves4_idle m c t ht, after_0, after_1, after_2, after_3]
  simp only [before_0, before_1, before_2, before_3]
  unfold Dat.owesAt Pipeline.owesWithin
  rw [show (dats m 0 c).owed t.castSucc = 0 from rfl, show (dats m 0 c).owed t.succ = 0 from rfl]
  unfold PhiS
  have hck := hchk t
  iintro ⟨⟨%S, %Q, %N, %SC, %SH, %XC, %hI, HS, HQ, HN, HSC, HSH, HXC, Hg⟩, ⟨%W, -, HW⟩, ⟨%d0, H0⟩, ⟨%d1, H1⟩, ⟨%d2, H2⟩, ⟨%d3, H3⟩, H4⟩
  have e1 := inv_stats m c t.val ht hI
  unfold idxB xB at e1
  rw [pt_val, ← off1_eq t ht] at e1
  simp only [← condA_iff t] at e1
  iapply (runStats c (grid0.coords t) _ _ _ _ _ _ _ _ _ _ _ _ _ _ _ _ _ _ _ _ _ _ (iblk m c 0 t) (iblk m c 1 t) S Q N XC hck
    ((cond2_iff t).mpr ht) (fun h => absurd ((condE_iff t).mp h) (by omega)) (fun h => (cond6_iff t).mp h ht) _)
  isplitl [H0]; · iexact H0
  isplitl [H1]; · iexact H1
  isplitl [HS]; · iexact HS
  isplitl [HQ]; · iexact HQ
  isplitl [HN]; · iexact HN
  isplitl [HXC]; · iexact HXC
  iintro ⟨H0, H1, HS, HQ, HN, HXC⟩
  isplitl [HS HQ HN HSC HSH HXC Hg]
  · iexists _, _, _, _, _, _
    isplitr; swap
    · isplitl [HS]; · iexact HS
      isplitl [HQ]; · iexact HQ
      isplitl [HN]; · iexact HN
      isplitl [HSC]; · iexact HSC
      isplitl [HSH]; · iexact HSH
      isplitl [HXC]; · iexact HXC
      iexact Hg
    ipureintro; exact e1
  isplitl [HW]
  · iexists W; isplitr; · ipureintro; exact fun _ _ => Or.inl trivial
    iexact HW
  isplitl [H0]; · iexact H0
  isplitl [H1]; · iexact H1
  isplitl [H2]; · iexact H2
  isplitl [H3]; · iexact H3
  iexact H4

set_option maxHeartbeats 400000 in
/-- The body's run at a point that writes the result. -/
theorem sound_norm (c : Dev nD) (hchk : Chk m c) (t : Fin cfg0.N) (ht : ¬ t.val < 10) :
    bodyPre m c t ⊢ wp frame (wpE (defs₀ (F := F)) Variants.none c none) Set.univ (bodyAt0 t) (fun _ => bodyPost m c t) := by
  unfold bodyPre bodyPost bodyAt0
  rw [Phi_castSucc, Phi_succ, leaves4_live m c t ht, after_0, after_1, after_2, after_3, after_4]
  simp only [before_0, before_1, before_2, before_3]
  unfold Dat.owesAt Pipeline.owesWithin
  rw [show (dats m 0 c).owed t.castSucc = 0 from rfl, show (dats m 0 c).owed t.succ = 0 from rfl]
  unfold PhiS
  have hck := hchk t
  have htl : t.val < 20 := lt_of_lt_of_eq t.isLt N_0
  iintro ⟨⟨%S, %Q, %N, %SC, %SH, %XC, %hI, HS, HQ, HN, HSC, HSH, HXC, Hg⟩, ⟨%W, -, HW⟩, ⟨%d0, H0⟩, ⟨%d1, H1⟩, ⟨%d2, H2⟩, ⟨%d3, H3⟩, ⟨%d4, H4⟩⟩
  have e1 := inv_norm m c t.val ht hI
  unfold wB bB at e1
  rw [pt_val] at e1
  simp only [← condE_iff t] at e1
  obtain ⟨hI', hsc, hsh⟩ := e1
  have hXC : rowsAt 5120 XC (k0_off4 (grid0.coords t)) = k0_pay14 (xB m c (t.val - 10)) := by
    rw [off4_eq t ht]; exact hI.copy _ (by omega)
  have hout : outOf (iblk m c 0 t) (rowsAt 5120 XC (k0_off4 (grid0.coords t)))
      (if condE (grid0.coords t) = 1#1 then k0_pay4 N S Q (iblk m c 2 t) else SC)
      (if condE (grid0.coords t) = 1#1 then k0_pay5 N S Q (iblk m c 2 t) (iblk m c 3 t) else SH) = outAt m c t.val := by
    rw [hsc, hsh, hXC]; unfold outAt idxB; rw [pt_val]
  rw [← hout]
  iapply (runNorm c (grid0.coords t) _ _ _ _ _ _ _ _ _ _ _ _ _ _ _ _ _ _ _ _ _ _ (iblk m c 0 t) (iblk m c 2 t) (iblk m c 3 t) _ S Q N SC SH XC hck
    (fun h => absurd ((condA_iff t).mp h) (by omega)) (fun h => ht ((cond2_iff t).mp h)) ((cond6_iff t).mpr ht) _)
  isplitl [H0]; · iexact H0
  isplitl [H2]; · iexact H2
  isplitl [H3]; · iexact H3
  isplitl [H4]; · iexact H4
  isplitl [HS]; · iexact HS
  isplitl [HQ]; · iexact HQ
  isplitl [HN]; · iexact HN
  isplitl [HSC]; · iexact HSC
  isplitl [HSH]; · iexact HSH
  isplitl [HXC]; · iexact HXC
  iintro ⟨H0, H2, H3, H4, HS, HQ, HN, HSC, HSH, HXC⟩
  isplitl [HS HQ HN HSC HSH HXC Hg]
  · iexists _, _, _, _, _, _
    isplitr; swap
    · isplitl [HS]; · iexact HS
      isplitl [HQ]; · iexact HQ
      isplitl [HN]; · iexact HN
      isplitl [HSC]; · iexact HSC
      isplitl [HSH]; · iexact HSH
      isplitl [HXC]; · iexact HXC
      iexact Hg
    ipureintro; exact hI'
  isplitl [HW]
  · iexists W; isplitr; · ipureintro; exact fun _ _ => Or.inl trivial
    iexact HW
  isplitl [H0]; · iexact H0
  isplitl [H1]; · iexact H1
  isplitl [H2]; · iexact H2
  isplitl [H3]; · iexact H3
  iexact H4

/-- The body that is called at a point is the point's body. -/
theorem defs₀_row (t : Fin cfg0.N) : defs₀ (F := F) .tc cfg0.body (cfg0.bodyArgs t (cfg0.slots t)) = bodyAt0 t := by
  unfold defs₀; rw [Defs.onTc_tc]

/-- The body's run at every point. -/
theorem body_obligation (c : Dev nD) (hchk : Chk m c) : BodyObligation (dats (F := F) m 0 c) (defs₀ (F := F)) Variants.none () Set.univ := fun t => by
  rw [bigSep_W0, bigSep_W0, defs₀_row]
  exact triple_restated (if ht : t.val < 10 then sound_stats m c hchk t ht else sound_norm m c hchk t ht) rfl .rfl fun _ => .rfl

/-! ## The run -/

/-- The tables at the start of the grid. -/
theorem Phi_in (c : Dev nD) : Pipeline.ΦA (cfgs 0).spec c ⊢ (dats (F := F) m 0 c).Φ 0 := by
  rw [show (dats (F := F) m 0 c).Φ 0 = PhiS m c 0 from rfl]
  rw [show (Pipeline.ΦA (cfgs 0).spec c : sProp 𝕄) = iprop(Pipeline.scopedRest (Ix := Unit) (Name := ℕ) (U := UR sig nD τ) (Lvl := ℕ) (Val := Elt F) spec0 c ∗ ∃ r, prngReg c r) from rfl]
  rw [scopedRest0_eq]
  unfold PhiS
  simp only [sM0, sM1, sM2, sM3, sM4, sM5, owns_whole]
  iintro ⟨⟨⟨%S, HS⟩, ⟨%Q, HQ⟩, ⟨%N, HN⟩, ⟨%SC, HSC⟩, ⟨%SH, HSH⟩, ⟨%XC, HXC⟩⟩, Hg⟩
  iexists S, Q, N, SC, SH, XC
  isplitr
  · ipureintro
    exact ⟨fun h => absurd h (by omega), fun h => absurd h (by omega), fun h => absurd h (by omega), fun h => absurd h (by omega),
      fun h => absurd h (by omega), fun j hj => absurd hj (by omega)⟩
  isplitl [HS]; · iexact HS
  isplitl [HQ]; · iexact HQ
  isplitl [HN]; · iexact HN
  isplitl [HSC]; · iexact HSC
  isplitl [HSH]; · iexact HSH
  isplitl [HXC]; · iexact HXC
  iexact Hg

/-- The tables at its end. -/
theorem Phi_out (c : Dev nD) : (dats (F := F) m 0 c).Φ (Fin.last (cfgs 0).N) ⊢ Pipeline.ΦA (cfgs 0).spec c := by
  rw [show (dats (F := F) m 0 c).Φ (Fin.last (cfgs 0).N) = PhiS m c (Fin.last (cfgs 0).N).val from rfl]
  rw [show (Pipeline.ΦA (cfgs 0).spec c : sProp 𝕄) = iprop(Pipeline.scopedRest (Ix := Unit) (Name := ℕ) (U := UR sig nD τ) (Lvl := ℕ) (Val := Elt F) spec0 c ∗ ∃ r, prngReg c r) from rfl]
  rw [scopedRest0_eq]
  unfold PhiS
  simp only [sM0, sM1, sM2, sM3, sM4, sM5, owns_whole]
  iintro ⟨%S, %Q, %N, %SC, %SH, %XC, -, HS, HQ, HN, HSC, HSH, HXC, Hg⟩
  isplitr [Hg]
  · isplitl [HS]; · iexists S; iexact HS
    isplitl [HQ]; · iexists Q; iexact HQ
    isplitl [HN]; · iexists N; iexact HN
    isplitl [HSC]; · iexists SC; iexact HSC
    isplitl [HSH]; · iexists SH; iexact HSH
    iexists XC; iexact HXC
  iexact Hg

set_option backward.isDefEq.respectTransparency.types false in
/-- The program runs to its end from any memory in which the windows lie inside, with every semaphore back at zero. -/
theorem run_main (hchk : ∀ c, Chk m c) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) 0 launch0 defs₀ Variants.none m ρ main
    (hbody := fun c => (body_obligation m c (hchk c)).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m)

/-- The program leaves its four arguments as they were and every semaphore at zero. -/
theorem frame_main (hchk : ∀ c, Chk m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
      ⟨((h.1 c).2 main_arg0 (Pipeline.mem_restRefs_of main_arg0 (by decide) (by decide))).trans (W_main_arg0 m (dats m) c),
       ((h.1 c).2 main_arg1 (Pipeline.mem_restRefs_of main_arg1 (by decide) (by decide))).trans (W_main_arg1 m (dats m) c),
       ((h.1 c).2 main_arg2 (Pipeline.mem_restRefs_of main_arg2 (by decide) (by decide))).trans (W_main_arg2 m (dats m) c),
       ((h.1 c).2 main_arg3 (Pipeline.mem_restRefs_of main_arg3 (by decide) (by decide))).trans (W_main_arg3 m (dats m) c)⟩, h.2⟩) (run_main m ρ hchk)

end Cert.KernelIdeal.Hand

end
-- ==== Proof.KFrame.lean ====
module

public import proofs.«01_k».proof.Proof.Frames
public import proofs.«01_k».proof.Proof.Gen.Kernel.Frame
public import Idealize.ShloMosaic.PureOps.BitExact

@[expose] public section

set_option maxRecDepth 16384

noncomputable section

namespace Cert.Kernel.Hand

open Idealize.ShloMosaic Idealize.ShloMosaic.TcCoe
open Idealize.SL Idealize.SL.Sem
open Cert

set_option maxHeartbeats 400000
set_option backward.isDefEq.respectTransparency.types false
set_option backward.isDefEq.respectTransparency false
/-- The kernel and its ideal print have the same body. -/
theorem body_eq : @Kernel.cc0__fused_kernel Bits _ _ = @KernelIdeal.cc0__fused_kernel Bits _ _ := rfl
/-- The two body tables are one. -/
theorem defs₀_eq : @Kernel.defs₀ Bits _ _ = @KernelIdeal.defs₀ Bits _ _ := by
  unfold Kernel.defs₀ KernelIdeal.defs₀
  refine congrArg (Defs.onTc (nD := KernelIdeal.nD) (τ := KernelIdeal.τ) (sig := KernelIdeal.sig) (Val := Elt Bits) (Λ := KernelIdeal.Λ₀)) ?_
  funext l x
  match l, x with
  | ⟨0, _⟩, _ => rfl
/-- The two programs' tables of bodies are one. -/
theorem defs_eq : @Kernel.defs Bits _ _ = @KernelIdeal.defs Bits _ _ := congrArg (Pipeline.defs (KernelIdeal.pcfgs (F := Bits))) defs₀_eq

open Cert.Kernel
/-- The kernel as printed leaves its four arguments as they were and every semaphore at zero. -/
theorem frame_kernel (m : (ℓ : Loc nD τ sig) → Buf (Elt Bits) ℓ) (ρ : Dev nD → PrngReg)
    (hchk : ∀ c, Cert.KernelIdeal.Hand.Chk (F := Bits) m c) : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  rw [defs_eq]
  exact Cert.KernelIdeal.Hand.frame_main (F := Bits) m ρ hchk

end Cert.Kernel.Hand

end
-- ==== Proof.Arrays.lean ====
module

public import proofs.«01_k».proof.Proof.Frames
public import Idealize.ShloMosaic.Lib.Pointwise
public import Idealize.ShloMosaic.Lib.Pipeline.ValueKit
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- The node features. -/
abbrev aX (c : Dev nD) : Vec F S50000x256 .f32 := m ((c.tc : Thread nD τ).loc main_arg0)
/-- The weight. -/
abbrev aW (c : Dev nD) : Vec F S256 .f32 := m ((c.tc : Thread nD τ).loc main_arg1)
/-- The bias. -/
abbrev aB (c : Dev nD) : Vec F S256 .f32 := m ((c.tc : Thread nD τ).loc main_arg2)
/-- The graph of each node. -/
abbrev aI (c : Dev nD) : Vec F S50000 .i32 := m ((c.tc : Thread nD τ).loc main_arg3)

/-- The kernel's first array: the nodes, padded with zeros to ten blocks. -/
theorem V_v0 (c : Dev nD) : V m c main_v0 = pad S51200x256 ![0, 0] ![1200, 0] ![0, 0] (aX m c) (sitofp .f32 (constantI S_ 32 0#32)) pads_S50000x256_S51200x256_012000_000 h_S_ := by
  show StableHlo.after (List.flatten [hostOps0, hostOps0_1, hostOps0_2, hostOps0_3, hostOps0_4]) _ (Proc.devRef .tc main_v0) = _
  simp only [hostOps0, hostOps0_1, hostOps0_2, hostOps0_3, hostOps0_4, List.flatten_cons, List.flatten_nil, List.append_nil, List.cons_append, List.nil_append]
  after_results
  rfl

/-- The kernel's index array: the indices, padded with 512, in ten blocks. -/
theorem V_v2 (c : Dev nD) : V m c main_v2 = shapeCast S10x1x5120 (pad S51200 ![0] ![1200] ![0] (aI m c) (constantI S_ 32 512#32) pads_S50000_S51200_012000 h_S_) shapeCasts_S51200_S10x1x5120 := by
  show StableHlo.after (List.flatten [hostOps0, hostOps0_1, hostOps0_2, hostOps0_3, hostOps0_4]) _ (Proc.devRef .tc main_v2) = _
  simp only [hostOps0, hostOps0_1, hostOps0_2, hostOps0_3, hostOps0_4, List.flatten_cons, List.flatten_nil, List.append_nil, List.cons_append, List.nil_append]
  after_results
  rfl

/-- The weight as one row. -/
theorem V_v3 (c : Dev nD) : V m c main_v3 = shapeCast S1x256 (aW m c) shapeCasts_S256_S1x256 := by
  show StableHlo.after (List.flatten [hostOps0, hostOps0_1, hostOps0_2, hostOps0_3, hostOps0_4]) _ (Proc.devRef .tc main_v3) = _
  simp only [hostOps0, hostOps0_1, hostOps0_2, hostOps0_3, hostOps0_4, List.flatten_cons, List.flatten_nil, List.append_nil, List.cons_append, List.nil_append]
  after_results
  rfl

/-- The bias as one row. -/
theorem V_v4 (c : Dev nD) : V m c main_v4 = shapeCast S1x256 (aB m c) shapeCasts_S256_S1x256 := by
  show StableHlo.after (List.flatten [hostOps0, hostOps0_1, hostOps0_2, hostOps0_3, hostOps0_4]) _ (Proc.devRef .tc main_v4) = _
  simp only [hostOps0, hostOps0_1, hostOps0_2, hostOps0_3, hostOps0_4, List.flatten_cons, List.flatten_nil, List.append_nil, List.cons_append, List.nil_append]
  after_results
  rfl

/-! ## The blocks at an index -/

theorem win_at : ∀ t : Fin grid0.N, win0_0.index t = ![t.val % 10, 0, 0] ∧ (t.val < 10 → win0_1.index t = ![t.val, 0]) ∧ win0_2.index t = ![0, 0]
    ∧ win0_3.index t = ![0, 0] ∧ (¬ t.val < 10 → win0_4.index t = ![t.val - 10, 0]) := by decide +kernel

/-- Index `j` of the block of indices at point `t`: index `5120 * (t % 10) + j` of the padded list. -/
theorem idx_ap (c : Dev nD) (t : Fin cfg0.N) (j : Fin 5120) :
    (iblk m c 0 t : Vec F S1x1x5120 .i32) (ix3 0 0 j) = if h : 5120 * (t.val % 10) + j.val < 50000 then aI m c (ix1 ⟨5120 * (t.val % 10) + j.val, h⟩) else 512#32 := by
  have e : (iblk m c 0 t : Vec F S1x1x5120 .i32) (ix3 0 0 j) = (V m c main_v2 : Vec F S10x1x5120 .i32) (ix3 ⟨t.val % 10, by omega⟩ 0 j) := by
    blk_ext [iblk, (win_at t).1]
  rw [e, V_v2]
  pointwise
  simp only [Nat.mul_comm 5120]

/-- Block `t` of the nodes, at an index. -/
theorem x_ap (c : Dev nD) (t : Fin cfg0.N) (ht : t.val < 10) (j : Fin 5120) (d : Fin 256) :
    (iblk m c 1 t : Vec F S5120x256 .f32) (ix2 j d) = if h : 5120 * t.val + j.val < 50000 then aX m c (ix2 ⟨5120 * t.val + j.val, h⟩ d) else FloatOps.sitofp .f32 0#32 := by
  have e : (iblk m c 1 t : Vec F S5120x256 .f32) (ix2 j d) = (V m c main_v0 : Vec F S51200x256 .f32) (ix2 ⟨5120 * t.val + j.val, by omega⟩ d) := by
    blk_ext [iblk, (win_at t).2.1 ht]
  rw [e, V_v0]
  pointwise

/-- The weight's block, at an index. -/
theorem w_ap (c : Dev nD) (t : Fin cfg0.N) (d : Fin 256) : (iblk m c 2 t : Vec F S1x256 .f32) (ix2 0 d) = aW m c (ix1 d) := by
  have e : (iblk m c 2 t : Vec F S1x256 .f32) (ix2 0 d) = (V m c main_v3 : Vec F S1x256 .f32) (ix2 0 d) := by
    blk_ext [iblk, (win_at t).2.2.1]
  rw [e, V_v3]
  pointwise

/-- The bias's block, at an index. -/
theorem b_ap (c : Dev nD) (t : Fin cfg0.N) (d : Fin 256) : (iblk m c 3 t : Vec F S1x256 .f32) (ix2 0 d) = aB m c (ix1 d) := by
  have e : (iblk m c 3 t : Vec F S1x256 .f32) (ix2 0 d) = (V m c main_v4 : Vec F S1x256 .f32) (ix2 0 d) := by
    blk_ext [iblk, (win_at t).2.2.2.1]
  rw [e, V_v4]
  pointwise

end Cert.KernelIdeal.Hand

end
-- ==== Proof.Words.lean ====
module

public import proofs.«01_k».proof.Proof.Arrays
public import Idealize.ShloMosaic.Lib.WordArith
public import Idealize.ShloMosaic.Lib.WordCmp
public import Idealize.ShloMosaic.Lib.Routing.Words

@[expose] public section

set_option maxRecDepth 16384

noncomputable section

namespace Cert.KernelIdeal.Hand

open Cert.KernelIdeal Cert.KernelIdeal.Gen
open Idealize.ShloMosaic Idealize.ShloMosaic.TcCoe Idealize.ShloMosaic.WordCmp
open Idealize.SL Idealize.SL.Sem

/-- The first row of the window of 192 rows: the block's first index rounded down to a multiple of 16, at most 320. -/
theorem loWord_ofNat (a : ℕ) (ha : a < 2 ^ 31) : loWord (BitVec.ofNat 32 a) = BitVec.ofNat 32 (min (a / 16 * 16) 320) := by
  unfold loWord
  dsimp only
  have hq : Scalar.divsi (BitVec.ofNat 32 a) 16#32 = BitVec.ofNat 32 (a / 16) := Routing.divsi_word _ ha (by omega) (by omega)
  have hr : Scalar.remsi (BitVec.ofNat 32 a) 16#32 = BitVec.ofNat 32 (a % 16) := Routing.remsi_word _ ha (by omega) (by omega)
  rw [hq, hr]
  have hsel : Scalar.select (Scalar.andi (Scalar.cmpi .ne (Scalar.subi (Scalar.extui (Scalar.cmpi .sgt (BitVec.ofNat 32 a) 0#32)) (Scalar.extui (Scalar.cmpi .slt (BitVec.ofNat 32 a) 0#32)))
      (Scalar.subi (Scalar.extui (Scalar.cmpi .sgt 16#32 0#32)) (Scalar.extui (Scalar.cmpi .slt 16#32 0#32)))) (Scalar.cmpi .ne (BitVec.ofNat 32 (a % 16)) 0#32))
      (Scalar.subi (BitVec.ofNat 32 (a / 16)) 1#32) (BitVec.ofNat 32 (a / 16)) = BitVec.ofNat 32 (a / 16) := by
    refine select_of_eq_zero ?_ _ _
    rcases Nat.eq_zero_or_pos a with h | h
    · subst h; decide
    · have h1 : Scalar.cmpi .sgt (BitVec.ofNat 32 a) 0#32 = 1#1 := (cmpi_sgt_ofNat_eq_one_iff (w := 32) (a := a) (b := 0) ha (by omega)).mpr h
      have h2 : Scalar.cmpi .slt (BitVec.ofNat 32 a) 0#32 = 0#1 := (cmpi_slt_ofNat_eq_zero_iff (w := 32) (a := a) (b := 0) ha (by omega)).mpr (by omega)
      rw [h1, h2]
      generalize Scalar.cmpi .ne (BitVec.ofNat 32 (a % 16)) 0#32 = b
      revert b; decide
  rw [hsel]
  have hm : Scalar.muli (BitVec.ofNat 32 (a / 16)) 16#32 = BitVec.ofNat 32 (a / 16 * 16) := muli_ofNat (w := 32) (a / 16) 16
  rw [hm]
  apply BitVec.eq_of_toNat_eq
  have h1 : (BitVec.ofNat 32 (a / 16 * 16)).toNat = a / 16 * 16 := WordArith.toNat_ofNat_of_lt _ (by omega)
  have h2 : (320#32).toNat = 320 := by decide
  have h3 : (BitVec.ofNat 32 (min (a / 16 * 16) 320)).toNat = min (a / 16 * 16) 320 := WordArith.toNat_ofNat_of_lt _ (by omega)
  show (IntOp.minsi _ _).toNat = _
  have := WordArith.toNat_minsi_of_lt (BitVec.ofNat 32 (a / 16 * 16)) (320#32) (by omega) (by omega)
  rw [h3]
  refine Eq.trans this ?_
  rw [h1, h2]

/-- The same as a number, for any word that is not negative. -/
theorem loWord_toNat (v : BitVec 32) (hv : 0 ≤ v.toInt) : (loWord v).toNat = min (v.toNat / 16 * 16) 320 := by
  have h := (toInt_nonneg_iff_lt_half v).mp hv
  have e : v = BitVec.ofNat 32 v.toNat := (BitVec.ofNat_toNat 32 v).symm ▸ by simp
  have h1 := loWord_ofNat v.toNat h
  rw [← e] at h1
  rw [h1]
  exact WordArith.toNat_ofNat_of_lt _ (by omega)

/-- The sums' window starts at the aligned first index. -/
theorem off2_lo (v : BitVec 32) : k0_off2 v = ![(loWord v).toNat, 0] := rfl
/-- So does the counts' window. -/
theorem off3_lo (v : BitVec 32) : k0_off3 v = ![(loWord v).toNat, 0] := rfl
/-- So does the window of the scales and shifts. -/
theorem off5_lo (v : BitVec 32) : k0_off5 v = ![(loWord v).toNat, 0] := rfl

/-- Where the block's first index is not negative, the window of 192 rows lies inside the tables. -/
theorem chk_of_nonneg (i : grid0.Coords) (v v' : BitVec 32) (hv : 0 ≤ v.toInt) : k0_chk1 i v v' := by
  have h := loWord_toNat v hv
  refine ⟨fun _ _ a => ?_, fun _ _ a => ?_, fun _ _ a => ?_⟩
  · rw [off2_lo]; fin_cases a
    · show (loWord v).toNat + 192 ≤ 512; omega
    · show 0 + 256 ≤ 256; omega
  · rw [off3_lo]; fin_cases a
    · show (loWord v).toNat + 192 ≤ 512; omega
    · show 0 + 1 ≤ 1; omega
  · rw [off5_lo]; fin_cases a
    · show (loWord v).toNat + 192 ≤ 512; omega
    · show 0 + 256 ≤ 256; omega

variable {F : FTy → Type} [FloatOps F]
variable (m : (ℓ : Loc nD τ sig) → Buf (Elt F) ℓ)

/-- The first index of a block. -/
theorem loOf_eq (v3 : Vec F S1x1x5120 .i32) : loOf v3 = v3 (ix3 0 0 0) := by
  show v3 _ = v3 _
  congr 1
  funext a; fin_cases a <;> rfl
/-- The last index of a block. -/
theorem hiOf_eq (v3 : Vec F S1x1x5120 .i32) : hiOf v3 = v3 (ix3 0 0 ⟨5119, by omega⟩) := by
  show v3 _ = v3 _
  congr 1
  funext a; fin_cases a <;> rfl

/-- Where no index is negative the body's windows lie inside at every point. -/
theorem chk_of_indices (c : Dev nD) (h : ∀ n : Fin 50000, 0 ≤ (aI m c (ix1 n) : BitVec 32).toInt) : Chk m c := by
  intro t
  refine chk_of_nonneg _ _ _ ?_
  rw [loOf_eq, idx_ap]
  split
  · exact h _
  · decide

end Cert.KernelIdeal.Hand

end
-- ==== Proof.Pre.lean ====
module

public import proofs.«01_k».proof.Defs
public import proofs.«01_k».proof.Proof.Gen.Pre_indices_nonnegative
public import proofs.«01_k».proof.Proof.Gen.Pre_sorted_graphs_finite_nodes
public import Idealize.ShloMosaic.Lib.Pointwise
public import Idealize.ShloMosaic.Lib.ReduceAll
public import Idealize.ShloMosaic.Lib.WordCmp
public import Idealize.ShloMosaic.Lib.Affine

@[expose] public section

noncomputable section

namespace Cert.PreRead

open Idealize.ShloMosaic Idealize.ShloMosaic.WordCmp

/-- The comparison with a bound, as a statement on signed integers. -/
theorem sge_one {x y : BitVec 32} (h : IntOp.cmpi .sge x y = 1#1) : y.toInt ≤ x.toInt := by
  rw [cmpi_sge_eq] at h
  by_contra hn
  rw [decide_eq_false hn] at h
  exact absurd h (by decide)

/-- The strict comparison, as a statement on signed integers. -/
theorem slt_one {x y : BitVec 32} (h : IntOp.cmpi .slt x y = 1#1) : x.toInt < y.toInt := by
  rw [cmpi_slt_eq] at h
  by_contra hn
  rw [decide_eq_false hn] at h
  exact absurd h (by decide)

/-- The comparison of neighbours, as a statement on signed integers. -/
theorem sle_one {x y : BitVec 32} (h : IntOp.cmpi .sle x y = 1#1) : x.toInt ≤ y.toInt := by
  rw [cmpi_sle_eq] at h
  by_contra hn
  rw [decide_eq_false hn] at h
  exact absurd h (by decide)

/-- A scalar has one index. -/
instance {t : Shape} [h : IsEmpty (Fin t.rank)] : Subsingleton t.Idx := ⟨fun a b => funext fun i => h.elim i⟩
/-- A scalar has no axis. -/
instance : IsEmpty (Fin (Shape.rank ⟨0, ![]⟩)) := inferInstanceAs (IsEmpty (Fin 0))

/-- `indices_nonnegative` read: no graph index is negative. -/
theorem nonneg {F : FTy → Type} [FloatOps F] (x : FVec F ⟨2, ![50000, 256]⟩ .f32) (w b : FVec F ⟨1, ![256]⟩ .f32) (g : IVec ⟨1, ![50000]⟩ 32)
    (h : Cert.Pre_indices_nonnegative.fn x w b g = fun _ => 1#1) (n : Fin 50000) : 0 ≤ (g (ix1 n)).toInt := by
  have h0 := congrFun h (fun a => a.elim0)
  simp only [Cert.Pre_indices_nonnegative.fn] at h0
  exact sge_one (Host.reduce_andi_all _ _ _ _ _ h0 (ix1 n))

/-- An extended real whose absolute value lies below the largest is a real number. -/
theorem real_of_abs_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  have h1 : max x (-x) < ⊤ := by
    by_contra hn
    rw [ht] at h
    unfold Ideal.cmp at h
    dsimp only at h
    rw [decide_eq_false hn] at h
    exact absurd h (by decide)
  induction x using EReal.rec with
  | bot => simp at h1
  | top => simp at h1
  | coe r => exact ⟨r, rfl⟩

/-- What the precondition of the value claim says: the graph indices lie in [0, 512) and do not decrease, and the nodes and the weights are real numbers. -/
structure Good (x : FVec Ideal ⟨2, ![50000, 256]⟩ .f32) (w : FVec Ideal ⟨1, ![256]⟩ .f32) (g : IVec ⟨1, ![50000]⟩ 32) : Prop where
  lo (n : Fin 50000) : 0 ≤ (g (ix1 n)).toInt
  hi (n : Fin 50000) : (g (ix1 n)).toInt < 512
  mono (a b : Fin 50000) (h : a ≤ b) : (g (ix1 a)).toInt ≤ (g (ix1 b)).toInt
  xr (n : Fin 50000) (d : Fin 256) : ∃ r : ℝ, x (ix2 n d) = (r : EReal)
  wr (d : Fin 256) : ∃ r : ℝ, w (ix1 d) = (r : EReal)

/-- `sorted_graphs_finite_nodes` read. -/
theorem good (x : FVec Ideal ⟨2, ![50000, 256]⟩ .f32) (w b : FVec Ideal ⟨1, ![256]⟩ .f32) (g : IVec ⟨1, ![50000]⟩ 32)
    (h : Cert.Pre_sorted_graphs_finite_nodes.fn x w b g = fun _ => 1#1) : Good x w g := by
  have h0 := congrFun h (fun a => a.elim0)
  simp only [Cert.Pre_sorted_graphs_finite_nodes.fn, Cert.Pre_sorted_graphs_finite_nodes.fn_part1] at h0
  obtain ⟨h1, h2⟩ := IntOp.andi_eq_one.1 h0
  obtain ⟨hr, hs⟩ := IntOp.andi_eq_one.1 h1
  obtain ⟨hx, hw⟩ := IntOp.andi_eq_one.1 h2
  have hr' := fun n : Fin 50000 => IntOp.andi_eq_one.1 (Host.reduce_andi_all _ _ _ _ _ hr (ix1 n))
  have hs' : ∀ n : Fin 49999, (g (ix1 ⟨n.val, by omega⟩)).toInt ≤ (g (ix1 ⟨n.val + 1, by omega⟩)).toInt := by
    intro n
    have := sle_one (Host.reduce_andi_all _ _ _ _ _ hs (ix1 n))
    pointwise at this
    simpa [Nat.add_comm] using this
  refine ⟨fun n => sge_one (hr' n).1, fun n => slt_one (hr' n).2, ?_, fun n d => ?_, fun d => ?_⟩
  · intro a b hab
    obtain ⟨k, hk⟩ := Nat.exists_eq_add_of_le (show a.val ≤ b.val from hab)
    induction k generalizing b with
    | zero => rw [show a = b from Fin.ext (by omega)]
    | succ k ih =>
      have h3 := ih ⟨a.val + k, by omega⟩ (by show a.val ≤ _; simp) rfl
      have h4 := hs' ⟨a.val + k, by omega⟩
      rw [show b = ⟨a.val + k + 1, by omega⟩ from Fin.ext (by omega)]
      exact le_trans h3 h4
  · exact real_of_abs_lt _ (Host.reduce_andi_all _ _ _ _ _ hx (ix2 n d))
  · exact real_of_abs_lt _ (Host.reduce_andi_all _ _ _ _ _ hw (ix1 d))

end Cert.PreRead

end
-- ==== Proof.Steps.lean ====
module

public import proofs.«01_k».proof.Proof.Words
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.WordCmp
open Idealize.SL Idealize.SL.Sem

/-- One where the word names row `r`, zero elsewhere. -/
def hit (v : BitVec 32) (r : ℕ) : EReal := if v.toNat = r then 1 else 0

/-- The comparison of two words, as the extended real 1 or 0. -/
theorem hot_eq (a b : BitVec 32) : (FloatOps.sitofp (F := Ideal) FTy.f32 (BitVec.setWidth 32 (IntOp.cmpi CmpIPredicate.eq a b)) : EReal) = if a = b then 1 else 0 := by
  rw [cmpi_eq_eq]
  by_cases h : a = b
  · rw [decide_eq_true h, if_pos h]
    show (((BitVec.setWidth 32 (BitVec.ofBool true)).toInt : ℝ) : EReal) = 1
    rw [show (BitVec.setWidth 32 (BitVec.ofBool true)).toInt = 1 by decide]
    norm_num
  · rw [decide_eq_false h, if_neg h]
    show (((BitVec.setWidth 32 (BitVec.ofBool false)).toInt : ℝ) : EReal) = 0
    rw [show (BitVec.setWidth 32 (BitVec.ofBool false)).toInt = 0 by decide]
    norm_num

/-- The wide path's comparison of row `r` with an index. -/
theorem hot_wide (r : Fin 512) (v : BitVec 32) :
    (FloatOps.sitofp (F := Ideal) FTy.f32 (BitVec.setWidth 32 (IntOp.cmpi CmpIPredicate.eq (BitVec.ofNat 32 r.val) v)) : EReal) = hit v r.val := by
  rw [hot_eq]
  unfold hit
  have e : (BitVec.ofNat 32 r.val).toNat = r.val := WordArith.toNat_ofNat_of_lt _ (by omega)
  congr 1
  rw [← BitVec.toNat_inj, e]
  exact propext ⟨Eq.symm, Eq.symm⟩

/-- The narrow path's comparison, its rows starting at `l`. -/
theorem hot_narrow (r : Fin 192) (l v : BitVec 32) (hl : l.toNat ≤ 320) :
    (FloatOps.sitofp (F := Ideal) FTy.f32 (BitVec.setWidth 32 (IntOp.cmpi CmpIPredicate.eq (IntOp.addi (BitVec.ofNat 32 r.val) l) v)) : EReal) = hit v (l.toNat + r.val) := by
  rw [hot_eq]
  unfold hit
  have e : (IntOp.addi (BitVec.ofNat 32 r.val) l).toNat = l.toNat + r.val := by
    show (BitVec.ofNat 32 r.val + l).toNat = _
    rw [BitVec.toNat_add, WordArith.toNat_ofNat_of_lt _ (by omega)]
    omega
  congr 1
  rw [← BitVec.toNat_inj, e]
  exact propext ⟨Eq.symm, Eq.symm⟩

/-- The graph of row `j` of a block. -/
abbrev gOf (v3 : Vec Ideal S1x1x5120 .i32) (j : Fin 5120) : BitVec 32 := v3 (ix3 0 0 j)

/-- A block of sorted indices from 0 to 512. -/
structure Sorted (v3 : Vec Ideal S1x1x5120 .i32) : Prop where
  le (j : Fin 5120) : (gOf v3 j).toNat ≤ 512
  first (j : Fin 5120) : (gOf v3 0).toNat ≤ (gOf v3 j).toNat
  last (j : Fin 5120) : (gOf v3 j).toNat ≤ (gOf v3 ⟨5119, by omega⟩).toNat

/-- The first row of the window. -/
abbrev loRow (v3 : Vec Ideal S1x1x5120 .i32) : ℕ := (loWord (loOf v3)).toNat

/-- Where the narrow path's rows start. -/
theorem loRow_eq (v3 : Vec Ideal S1x1x5120 .i32) (h : Sorted v3) : loRow v3 = min ((gOf v3 0).toNat / 16 * 16) 320 := by
  show (loWord (loOf v3)).toNat = _
  have hle : (v3 (ix3 0 0 0) : BitVec 32).toNat ≤ 512 := h.le 0
  rw [loOf_eq]
  exact loWord_toNat _ ((toInt_nonneg_iff_lt_half _).mpr (by show _ < 2 ^ 31; omega))

/-- Where the body takes the narrow way, the block's last index is less than 176 above its first. -/
theorem narrow_lt (v3 : Vec Ideal S1x1x5120 .i32) (h : Sorted v3) (hn : Narrow v3) :
    (gOf v3 ⟨5119, by omega⟩).toNat < (gOf v3 0).toNat + 176 := by
  unfold Narrow at hn
  rw [loOf_eq, hiOf_eq] at hn
  have h1 := h.last 0
  have h2 := h.le ⟨5119, by omega⟩
  revert hn h1 h2
  show k0_cond3 (gOf v3 0) (gOf v3 ⟨5119, by omega⟩) = 1#1 → _
  generalize gOf v3 0 = a
  generalize gOf v3 ⟨5119, by omega⟩ = b
  intro hn h1 h2
  have hs : (IntOp.subi b a).toNat = b.toNat - a.toNat := by
    show (b - a).toNat = _
    rw [BitVec.toNat_sub]
    omega
  have hc : IntOp.cmpi .slt (IntOp.subi b a) 176#32 = 1#1 := by
    unfold k0_cond3 at hn
    dsimp only at hn
    revert hn
    show Scalar.cmpi .ne (Scalar.extui (IntOp.cmpi .slt (IntOp.subi b a) 176#32) : BitVec 32) 0#32 = 1#1 → _
    generalize IntOp.cmpi .slt (IntOp.subi b a) 176#32 = c
    revert c; decide
  rw [cmpi_slt_of_lt (by rw [hs]; show _ < 2 ^ 31; omega) (by decide)] at hc
  by_contra hge
  rw [decide_eq_false (by rw [hs]; show ¬ _ < 176; omega)] at hc
  exact absurd hc (by decide)

/-- A row of the table outside the window is the graph of no row of the block. -/
theorem apart (v3 : Vec Ideal S1x1x5120 .i32) (h : Sorted v3) (hn : Narrow v3) (r : Fin 512)
    (hr : ¬ (loRow v3 ≤ r.val ∧ r.val < loRow v3 + 192)) (j : Fin 5120) : (gOf v3 j).toNat ≠ r.val := by
  have h1 := loRow_eq v3 h
  have h2 := narrow_lt v3 h hn
  have h3 := h.first j
  have h4 := h.last j
  rw [h1] at hr
  omega

/-- An index does not hit another row. -/
theorem hit_apart (v : BitVec 32) (r : ℕ) (h : v.toNat ≠ r) : hit v r = 0 := if_neg h
/-- An index hits its own row. -/
theorem hit_same (v : BitVec 32) (r : ℕ) (h : v.toNat = r) : hit v r = 1 := if_pos h

/-- Rows of a table at an offset, at an index. -/
theorem rowsAt_at {n : ℕ} {e : EltTy} (S : Vec Ideal ⟨2, ![512, n]⟩ e) (L : ℕ) (hL : L ≤ 320) (r : Fin 192) (d : Fin n) :
    rowsAt 192 S ![L, 0] (ix2 r d) = S (ix2 ⟨L + r.val, by omega⟩ d) := by
  unfold rowsAt
  rw [dif_pos (by intro a; fin_cases a; (· show L + 192 ≤ 512; omega); (· show 0 + n ≤ n; omega))]
  show S _ = S _
  congr 1
  funext a
  fin_cases a
  · exact Fin.ext (by show L + 1 * r.val = L + r.val; omega)
  · exact Fin.ext (by show 0 + 1 * d.val = d.val; omega)

/-- A table with new rows in the window, at an index. -/
theorem put_at {n : ℕ} {e : EltTy} (S : Vec Ideal ⟨2, ![512, n]⟩ e) (L : ℕ) (W : Vec Ideal ⟨2, ![192, n]⟩ e) (r : Fin 512) (d : Fin n) :
    VecWindow.put S ![L, 0] (⟨2, ![192, n]⟩ : Shape).size W (ix2 r d)
      = if h : L ≤ r.val ∧ r.val < L + 192 then W (ix2 ⟨r.val - L, by omega⟩ d) else S (ix2 r d) := by
  unfold VecWindow.put
  by_cases h : L ≤ r.val ∧ r.val < L + 192
  · rw [dif_pos h, dif_pos (by intro a; fin_cases a; (· exact h); (· exact ⟨Nat.zero_le _, by show d.val < 0 + n; omega⟩))]
    congr 1
    funext a
    fin_cases a
    · rfl
    · exact Fin.ext (by show d.val - 0 = d.val; omega)
  · rw [dif_neg h, dif_neg (fun hh => h (hh 0))]

/-- Rows of the window that each take in a sum over the block leave the table with every row having taken in its sum. -/
theorem narrow_step {n : ℕ} (v3 : Vec Ideal S1x1x5120 .i32) (h : Sorted v3) (hn : Narrow v3) (S : Vec Ideal ⟨2, ![512, n]⟩ .f32)
    (W : Vec Ideal ⟨2, ![192, n]⟩ .f32) (f : Fin 5120 → Fin n → EReal)
    (hW : ∀ q d, W (ix2 q d) = (rowsAt 192 S ![loRow v3, 0] (ix2 q d) : EReal) + ∑ j, hit (gOf v3 j) (loRow v3 + q.val) * f j d) (r : Fin 512) (d : Fin n) :
    VecWindow.put S ![loRow v3, 0] (⟨2, ![192, n]⟩ : Shape).size W (ix2 r d) = (S (ix2 r d) : EReal) + ∑ j, hit (gOf v3 j) r.val * f j d := by
  have hL : loRow v3 ≤ 320 := by rw [loRow_eq v3 h]; omega
  rw [put_at]
  by_cases hr : loRow v3 ≤ r.val ∧ r.val < loRow v3 + 192
  · rw [dif_pos hr, hW, rowsAt_at S _ hL]
    have e : loRow v3 + (r.val - loRow v3) = r.val := by omega
    simp only [e]
  · rw [dif_neg hr, Finset.sum_eq_zero, add_zero]
    intro j _
    rw [hit_apart _ _ (apart v3 h hn r hr j), zero_mul]

/-- The narrow path's matrix of comparisons. -/
theorem pay15_eq (v3 : Vec Ideal S1x1x5120 .i32) : k0_pay15 v3 (firstOf v3) = truncf .bf16 (sitofp .f32 (extui 32 (cmpi .eq (broadcastTo S192x5120
    (addi (iota .tc S192x1 32 [0] iota_S192x1_d0_w32) (broadcast S192x1 (loWord (loOf v3)))) broadcasts_S192x1_S192x5120)
    (broadcastTo S192x5120 (k0_pay12 v3) broadcasts_S1x5120_S192x5120)) natLt_1_32)) bitsLt_bf16_f32 := rfl

/-- The narrow path's rows start at 320 or before. -/
theorem loRow_le (v3 : Vec Ideal S1x1x5120 .i32) (h : Sorted v3) : loRow v3 ≤ 320 := by
  have := loRow_eq v3 h
  omega

/-- A block adds to the sums of row `r` the nodes of graph `r`. -/
theorem sumStep_at (v3 : Vec Ideal S1x1x5120 .i32) (h : Sorted v3) (X : Vec Ideal S5120x256 .f32) (S : Vec Ideal S512x256 .f32) (r : Fin 512) (d : Fin 256) :
    sumStep v3 X S (ix2 r d) = (S (ix2 r d) : EReal) + ∑ j, hit (gOf v3 j) r.val * (X (ix2 j d) : EReal) := by
  unfold sumStep
  by_cases hn : Narrow v3
  · rw [if_pos hn, off2_lo]
    refine narrow_step v3 h hn S _ (fun j d => X (ix2 j d)) (fun q d => ?_) r d
    unfold k0_pay16
    rw [pay15_eq]
    have hl : (loWord (loOf v3)).toNat ≤ 320 := loRow_le v3 h
    simp only [loRow]
    revert hl
    generalize loWord (loOf v3) = l
    intro hl
    generalize rowsAt 192 S ![l.toNat, 0] = A
    pointwise [k0_pay13, k0_pay12]
    simp only [hot_narrow _ _ _ hl]
  · rw [if_neg hn]
    pointwise [k0_pay20, k0_pay19, k0_pay13, k0_pay12]
    simp only [hot_wide]

/-- A block adds to the sums of squares of row `r` the squares of the nodes of graph `r`. -/
theorem sqStep_at (v3 : Vec Ideal S1x1x5120 .i32) (h : Sorted v3) (X : Vec Ideal S5120x256 .f32) (S : Vec Ideal S512x256 .f32) (r : Fin 512) (d : Fin 256) :
    sqStep v3 X S (ix2 r d) = (S (ix2 r d) : EReal) + ∑ j, hit (gOf v3 j) r.val * ((X (ix2 j d) : EReal) * (X (ix2 j d) : EReal)) := by
  unfold sqStep
  by_cases hn : Narrow v3
  · rw [if_pos hn, off2_lo]
    refine narrow_step v3 h hn S _ (fun j d => (X (ix2 j d) : EReal) * (X (ix2 j d) : EReal)) (fun q d => ?_) r d
    unfold k0_pay17
    rw [pay15_eq]
    have hl : (loWord (loOf v3)).toNat ≤ 320 := loRow_le v3 h
    simp only [loRow]
    revert hl
    generalize loWord (loOf v3) = l
    intro hl
    generalize rowsAt 192 S ![l.toNat, 0] = A
    pointwise [k0_pay13, k0_pay12]
    simp only [hot_narrow _ _ _ hl]
  · rw [if_neg hn]
    pointwise [k0_pay21, k0_pay19, k0_pay13, k0_pay12]
    simp only [hot_wide]

/-- A block adds to the count of row `r` the number of nodes of graph `r`. -/
theorem cntStep_at (v3 : Vec Ideal S1x1x5120 .i32) (h : Sorted v3) (S : Vec Ideal S512x1 .f32) (r : Fin 512) :
    cntStep v3 S (ix2 r 0) = (S (ix2 r 0) : EReal) + ∑ j, hit (gOf v3 j) r.val * (1 : EReal) := by
  unfold cntStep
  by_cases hn : Narrow v3
  · rw [if_pos hn, off3_lo]
    refine narrow_step v3 h hn S _ (fun j d => 1) (fun q d => ?_) r 0
    unfold k0_pay18
    rw [pay15_eq]
    have hl : (loWord (loOf v3)).toNat ≤ 320 := loRow_le v3 h
    simp only [loRow]
    revert hl
    generalize loWord (loOf v3) = l
    intro hl
    generalize rowsAt 192 S ![l.toNat, 0] = A
    obtain rfl : d = 0 := Subsingleton.elim _ _
    pointwise [k0_pay13, k0_pay12]
    simp only [hot_narrow _ _ _ hl]
  · rw [if_neg hn]
    pointwise [k0_pay22, k0_pay19, k0_pay13, k0_pay12]
    simp only [hot_wide]

/-- A sum of rows, each times 1 where the word names it and 0 elsewhere, is the row named. -/
theorem hit_sum {K : ℕ} (v : BitVec 32) (L : ℕ) (f : Fin K → EReal) (q : Fin K) (hq : v.toNat = L + q.val) : ∑ x, hit v (L + x.val) * f x = f q := by
  rw [Finset.sum_eq_single q, hit_same _ _ hq, one_mul]
  · intro b _ hb
    rw [hit_apart _ _ (fun e => hb (Fin.ext (by omega))), zero_mul]
  · intro hh; exact absurd (Finset.mem_univ q) hh

/-- The block of results at row `j`, a node of graph `k`: the node times the scale of the graph, plus its shift. -/
theorem outOf_at (v3 : Vec Ideal S1x1x5120 .i32) (h : Sorted v3) (XB : Vec Ideal S5120x256 .bf16) (SC SH : Vec Ideal S512x256 .bf16) (j : Fin 5120) (d : Fin 256)
    (k : Fin 512) (hk : (gOf v3 j).toNat = k.val) :
    outOf v3 XB SC SH (ix2 j d) = (XB (ix2 j d) : EReal) * (SC (ix2 k d) : EReal) + (SH (ix2 k d) : EReal) := by
  unfold outOf
  by_cases hn : Narrow v3
  · rw [if_pos hn, off5_lo]
    have hL := loRow_eq v3 h
    have hr : loRow v3 ≤ k.val ∧ k.val < loRow v3 + 192 := by
      by_contra hc
      exact apart v3 h hn k hc j hk
    have hL' : loRow v3 ≤ 320 := by omega
    have e : ∀ T : Vec Ideal S512x256 .bf16, rowsAt 192 T ![loRow v3, 0] (ix2 ⟨k.val - loRow v3, by omega⟩ d) = T (ix2 k d) := fun T => by
      rw [rowsAt_at T _ hL']
      congr 2
      exact Fin.ext (by show loRow v3 + (k.val - loRow v3) = k.val; omega)
    rw [← e SC, ← e SH]
    show k0_pay7 (k0_pay12 v3) (loWord (loOf v3)) XB (rowsAt 192 SC ![loRow v3, 0]) (rowsAt 192 SH ![loRow v3, 0]) (ix2 j d) = _
    generalize rowsAt 192 SC ![loRow v3, 0] = A
    generalize rowsAt 192 SH ![loRow v3, 0] = B
    have hq : (gOf v3 j).toNat = loRow v3 + (⟨k.val - loRow v3, by omega⟩ : Fin 192).val := by show _ = loRow v3 + (k.val - loRow v3); omega
    rw [← hit_sum (gOf v3 j) (loRow v3) (fun x => A (ix2 x d)) _ hq, ← hit_sum (gOf v3 j) (loRow v3) (fun x => B (ix2 x d)) _ hq]
    have hl : (loWord (loOf v3)).toNat ≤ 320 := hL'
    simp only [loRow]
    revert hl
    generalize loWord (loOf v3) = l
    intro hl
    pointwise [k0_pay7, k0_pay6, k0_pay12]
    simp only [hot_narrow _ _ _ hl]
  · rw [if_neg hn]
    have hq : (gOf v3 j).toNat = 0 + k.val := by omega
    rw [← hit_sum (gOf v3 j) 0 (fun x => SC (ix2 x d)) _ hq, ← hit_sum (gOf v3 j) 0 (fun x => SH (ix2 x d)) _ hq]
    pointwise [k0_pay8, k0_pay6, k0_pay12]
    simp only [hot_wide, Nat.zero_add]

end Cert.KernelIdeal.Hand

end
-- ==== Proof.Totals.lean ====
module

public import proofs.«01_k».proof.Proof.Steps

@[expose] public section

set_option maxRecDepth 16384

noncomputable section

namespace Cert.KernelIdeal.Hand

open Cert.KernelIdeal Cert.KernelIdeal.Gen
open Idealize.ShloMosaic Idealize.ShloMosaic.TcCoe Idealize.ShloMosaic.WordCmp
open Idealize.SL Idealize.SL.Sem

variable (m : (ℓ : Loc nD τ sig) → Buf (Elt Ideal) ℓ)

/-- The graph of row `n` of the padded list: the padding's graph is 512, which is no graph. -/
def gAt (c : Dev nD) (n : ℕ) : BitVec 32 := if h : n < 50000 then aI m c (ix1 ⟨n, h⟩) else 512#32

/-- Entry `d` of row `n` of the padded nodes. -/
def xAt (c : Dev nD) (n : ℕ) (d : Fin 256) : EReal := if h : n < 50000 then aX m c (ix2 ⟨n, h⟩ d) else 0

/-- The indices are sorted and name graphs 0 to 511. -/
structure SortedArg (c : Dev nD) : Prop where
  lt (n : Fin 50000) : (aI m c (ix1 n) : BitVec 32).toNat < 512
  mono (a b : Fin 50000) (h : a ≤ b) : (aI m c (ix1 a) : BitVec 32).toNat ≤ (aI m c (ix1 b) : BitVec 32).toNat

variable {m}

/-- No graph number passes 512. -/
theorem gAt_le {c : Dev nD} (h : SortedArg m c) (n : ℕ) : (gAt m c n).toNat ≤ 512 := by
  unfold gAt
  split
  · exact le_of_lt (h.lt _)
  · decide

/-- The padded list is sorted. -/
theorem gAt_mono {c : Dev nD} (h : SortedArg m c) (a b : ℕ) (hab : a ≤ b) : (gAt m c a).toNat ≤ (gAt m c b).toNat := by
  by_cases hb : b < 50000
  · unfold gAt
    rw [dif_pos hb, dif_pos (lt_of_le_of_lt hab hb)]
    exact h.mono _ _ hab
  · have e : gAt m c b = 512#32 := dif_neg hb
    rw [e]
    exact gAt_le h a

/-- A block's indices are those of its rows. -/
theorem gOf_idxB (c : Dev nD) (k : ℕ) (hk : k < 20) (j : Fin 5120) : gOf (idxB m c k) j = gAt m c (5120 * (k % 10) + j.val) := by
  show (iblk m c 0 (pt k) : Vec Ideal S1x1x5120 .i32) (ix3 0 0 j) = _
  rw [idx_ap, show (pt k).val = k from Nat.mod_eq_of_lt hk]
  rfl

/-- A block's indices are sorted. -/
theorem sorted_idxB {c : Dev nD} (h : SortedArg m c) (k : ℕ) (hk : k < 20) : Sorted (idxB m c k) where
  le j := by rw [gOf_idxB c k hk]; exact gAt_le h _
  first j := by rw [gOf_idxB c k hk, gOf_idxB c k hk]; exact gAt_mono h _ _ (by show 5120 * (k % 10) + 0 ≤ _; omega)
  last j := by rw [gOf_idxB c k hk, gOf_idxB c k hk]; exact gAt_mono h _ _ (by show _ ≤ 5120 * (k % 10) + 5119; omega)

/-- A block's nodes are those of its rows. -/
theorem xB_at (c : Dev nD) (k : ℕ) (hk : k < 10) (j : Fin 5120) (d : Fin 256) : (xB m c k (ix2 j d) : EReal) = xAt m c (5120 * k + j.val) d := by
  have e : (pt k).val = k := Nat.mod_eq_of_lt (by show k < 20; omega)
  show ((iblk m c 1 (pt k) : Vec Ideal S5120x256 .f32) (ix2 j d) : EReal) = _
  rw [x_ap m c (pt k) (by omega)]
  unfold xAt
  simp only [e]
  split
  · rfl
  · show (((0#32 : BitVec 32).toInt : ℝ) : EReal) = 0
    norm_num

/-- A sum over one block more is the sum so far and the sum over that block. -/
theorem sum_block (B k : ℕ) (f : ℕ → EReal) : ∑ n ∈ Finset.range (B * (k + 1)), f n = ∑ n ∈ Finset.range (B * k), f n + ∑ j : Fin B, f (B * k + j.val) := by
  rw [Nat.mul_succ, Finset.sum_range_add, Finset.sum_range fun x => f (B * k + x)]

/-- A sum whose last terms are zero. -/
theorem sum_head (A B : ℕ) (f : ℕ → EReal) (h : ∀ n, f (A + n) = 0) : ∑ n ∈ Finset.range (A + B), f n = ∑ n : Fin A, f n.val := by
  rw [Finset.sum_range_add, Finset.sum_eq_zero (s := Finset.range B) fun n _ => h n, add_zero, Finset.sum_range]

/-- The rows of the padded list up to block `k` that lie in graph `r`, summed. -/
def upTo (m : (ℓ : Loc nD τ sig) → Buf (Elt Ideal) ℓ) (c : Dev nD) (f : ℕ → EReal) (r k : ℕ) : EReal := ∑ n ∈ Finset.range (5120 * k), hit (gAt m c n) r * f n

/-- One more block adds its rows. -/
theorem upTo_succ (c : Dev nD) (f : ℕ → EReal) (r k : ℕ) (hk : k < 10) :
    upTo m c f r (k + 1) = upTo m c f r k + ∑ j : Fin 5120, hit (gOf (idxB m c k) j) r * f (5120 * k + j.val) := by
  unfold upTo
  rw [sum_block]
  refine congrArg _ (Finset.sum_congr rfl fun j _ => ?_)
  rw [gOf_idxB c k (by omega), Nat.mod_eq_of_lt hk]

/-- No block, no sum. -/
theorem upTo_zero (c : Dev nD) (f : ℕ → EReal) (r : ℕ) : upTo m c f r 0 = 0 := by
  unfold upTo
  rw [Nat.mul_zero, Finset.sum_range_zero]

/-- The running sums after `k` blocks. -/
theorem accS_at {c : Dev nD} (h : SortedArg m c) (r : Fin 512) (d : Fin 256) : ∀ k, k ≤ 10 → (accS m c k (ix2 r d) : EReal) = upTo m c (fun n => xAt m c n d) r.val k
  | 0, _ => by rw [upTo_zero]; pointwise [accS, k0_pay9]
  | k + 1, hk => by
    rw [upTo_succ c _ _ k (by omega), ← accS_at h r d k (by omega)]
    show sumStep (idxB m c k) (xB m c k) (accS m c k) (ix2 r d) = _
    rw [sumStep_at _ (sorted_idxB h k (by omega))]
    simp only [xB_at c k (by omega)]

/-- The running sums of squares after `k` blocks. -/
theorem accQ_at {c : Dev nD} (h : SortedArg m c) (r : Fin 512) (d : Fin 256) : ∀ k, k ≤ 10 → (accQ m c k (ix2 r d) : EReal) = upTo m c (fun n => xAt m c n d * xAt m c n d) r.val k
  | 0, _ => by rw [upTo_zero]; pointwise [accQ, k0_pay10]
  | k + 1, hk => by
    rw [upTo_succ c _ _ k (by omega), ← accQ_at h r d k (by omega)]
    show sqStep (idxB m c k) (xB m c k) (accQ m c k) (ix2 r d) = _
    rw [sqStep_at _ (sorted_idxB h k (by omega))]
    simp only [xB_at c k (by omega)]

/-- The running counts after `k` blocks. -/
theorem accN_at {c : Dev nD} (h : SortedArg m c) (r : Fin 512) : ∀ k, k ≤ 10 → (accN m c k (ix2 r 0) : EReal) = upTo m c (fun _ => 1) r.val k
  | 0, _ => by rw [upTo_zero]; pointwise [accN, k0_pay11]
  | k + 1, hk => by
    rw [upTo_succ c _ _ k (by omega), ← accN_at h r k (by omega)]
    show cntStep (idxB m c k) (accN m c k) (ix2 r 0) = _
    rw [cntStep_at _ (sorted_idxB h k (by omega))]

/-- The rows of the arguments that lie in graph `r`, summed. -/
def tot (g : Fin 50000 → BitVec 32) (f : Fin 50000 → EReal) (r : Fin 512) : EReal := ∑ n, hit (g n) r.val * f n

/-- All ten blocks are all the rows: the padding lies in no graph. -/
theorem upTo_ten (c : Dev nD) (f : ℕ → EReal) (r : Fin 512) : upTo m c f r.val 10 = tot (fun n => aI m c (ix1 n)) (fun n => f n.val) r := by
  unfold upTo tot
  rw [show 5120 * 10 = 50000 + 1200 by norm_num, sum_head]
  · refine Finset.sum_congr rfl fun n _ => ?_
    rw [show gAt m c n.val = aI m c (ix1 n) from dif_pos n.isLt]
  · intro n
    have e : gAt m c (50000 + n) = 512#32 := dif_neg (by omega)
    rw [e, hit_apart _ _ (by show 512 ≠ r.val; omega), zero_mul]

/-- The kernel's mean of a graph, from its sum and count. -/
def kMean (S N : EReal) : EReal := S * Ideal.div 1 (max N 1)

/-- The kernel's scale of a graph, from its sum, sum of squares and count and the weight. -/
def kScale (S Q N w : EReal) : EReal :=
  w * Ideal.rsqrt (max (Q * Ideal.div 1 (max N 1) - kMean S N * kMean S N) 0 + Ideal.ofBits FTy.f32 897988541#32)

/-- The table of scales, at an index. -/
theorem scFin_at {c : Dev nD} (h : SortedArg m c) (k : Fin 512) (d : Fin 256) : (scFin m c (ix2 k d) : EReal)
    = kScale (upTo m c (fun n => xAt m c n d) k.val 10) (upTo m c (fun n => xAt m c n d * xAt m c n d) k.val 10) (upTo m c (fun _ => 1) k.val 10) (aW m c (ix1 d)) := by
  rw [← accS_at h k d 10 le_rfl, ← accQ_at h k d 10 le_rfl, ← accN_at h k 10 le_rfl, ← w_ap m c (pt 10) d]
  show k0_pay4 (accN m c 10) (accS m c 10) (accQ m c 10) (wB m c 10) (ix2 k d) = _
  unfold kScale kMean
  pointwise [k0_pay4, k0_pay3, k0_pay2, k0_pay1]

/-- The table of shifts, at an index. -/
theorem shFin_at {c : Dev nD} (h : SortedArg m c) (k : Fin 512) (d : Fin 256) : (shFin m c (ix2 k d) : EReal)
    = aB m c (ix1 d) - kMean (upTo m c (fun n => xAt m c n d) k.val 10) (upTo m c (fun _ => 1) k.val 10)
      * kScale (upTo m c (fun n => xAt m c n d) k.val 10) (upTo m c (fun n => xAt m c n d * xAt m c n d) k.val 10) (upTo m c (fun _ => 1) k.val 10) (aW m c (ix1 d)) := by
  rw [← accS_at h k d 10 le_rfl, ← accQ_at h k d 10 le_rfl, ← accN_at h k 10 le_rfl, ← w_ap m c (pt 10) d, ← b_ap m c (pt 10) d]
  show k0_pay5 (accN m c 10) (accS m c 10) (accQ m c 10) (wB m c 10) (bB m c 10) (ix2 k d) = _
  unfold kScale kMean
  pointwise [k0_pay5, k0_pay3, k0_pay2, k0_pay1]

/-- The kernel's result at a node, from its graph's sum, sum of squares and count. -/
def kOut (x S Q N w b : EReal) : EReal := x * kScale S Q N w + (b - kMean S N * kScale S Q N w)

/-- The block of results of point `t`, at a row that is a node of graph `k`. -/
theorem outAt_at {c : Dev nD} (h : SortedArg m c) (t : ℕ) (ht : 10 ≤ t) (ht' : t < 20) (j : Fin 5120) (d : Fin 256) (hj : 5120 * (t - 10) + j.val < 50000) (k : Fin 512)
    (hk : (aI m c (ix1 ⟨5120 * (t - 10) + j.val, hj⟩) : BitVec 32).toNat = k.val) :
    (outAt m c t (ix2 j d) : EReal) = kOut (aX m c (ix2 ⟨5120 * (t - 10) + j.val, hj⟩ d)) (tot (fun n => aI m c (ix1 n)) (fun n => aX m c (ix2 n d)) k)
      (tot (fun n => aI m c (ix1 n)) (fun n => (aX m c (ix2 n d) : EReal) * (aX m c (ix2 n d) : EReal)) k) (tot (fun n => aI m c (ix1 n)) (fun _ => 1) k) (aW m c (ix1 d)) (aB m c (ix1 d)) := by
  have hx : ∀ n : Fin 50000, xAt m c n.val d = aX m c (ix2 n d) := fun n => dif_pos n.isLt
  have hg : gOf (idxB m c t) j = aI m c (ix1 ⟨5120 * (t - 10) + j.val, hj⟩) := by
    rw [gOf_idxB c t ht', show t % 10 = t - 10 by omega]
    exact dif_pos hj
  unfold outAt
  rw [outOf_at _ (sorted_idxB h t ht') _ _ _ j d k (by rw [hg]; exact hk), scFin_at h, shFin_at h]
  simp only [upTo_ten, hx]
  unfold kOut
  congr 2
  rw [← hx ⟨5120 * (t - 10) + j.val, hj⟩, ← xB_at c (t - 10) (by omega)]
  pointwise [k0_pay14, k0_pay13]

end Cert.KernelIdeal.Hand

end
-- ==== Proof.Result.lean ====
module

public import proofs.«01_k».proof.Proof.Totals
public import Idealize.ShloMosaic.Lib.Pipeline.ValueKit
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem

section Any

variable {F : FTy → Type} [FloatOps F]
variable (m : (ℓ : Loc nD τ sig) → Buf (Elt F) ℓ)

/-- The array of results: row `n` is row `n % 5120` of the block of point `10 + n / 5120`. -/
def outArr (c : Dev nD) : Vec F S51200x256 .f32 := fun i =>
  outAt m c (10 + (i 0).val / 5120) (ix2 ⟨(i 0).val % 5120, Nat.mod_lt _ (by omega)⟩ (i 1))

/-- The array of results after the run. -/
theorem final_arr (c : Dev nD) : (dats m 0 c).arrAt 4 (cfgs 0).N = outArr m c := by
  refine (dats m 0 c).arrAt_eq_of_covers 4 _ (by decide +kernel) fun t hf y => ?_
  have ht : ¬ t.val < 10 := by
    intro h
    have e : win0_4.flush t = true := hf
    rw [flush4 t, decide_eq_true h] at e
    exact absurd e (by decide)
  have hi := (win_at t).2.2.2.2 ht
  idx_vars y
  blk_simp [hi]
  rw [after_4]
  have ht' : t.val < 20 := t.isLt
  have e : outArr m c ((win0_4.blk t).view.emb (ix2 y0 y1)) = outArr m c (ix2 ⟨5120 * (t.val - 10) + y0.val, by omega⟩ y1) := by
    blk_ext [hi]
  rw [e]
  show _ = outAt m c (10 + (5120 * (t.val - 10) + y0.val) / 5120) (ix2 ⟨(5120 * (t.val - 10) + y0.val) % 5120, _⟩ y1)
  have h1 : 10 + (5120 * (t.val - 10) + y0.val) / 5120 = t.val := by omega
  have h2 : (5120 * (t.val - 10) + y0.val) % 5120 = y0.val := by omega
  simp only [h1, h2]

/-- The result of the program: the first 50000 rows of the array of results. -/
theorem W_v6 (c : Dev nD) : Pipeline.afterTail₀ cfgs (dats m) 0 (V0 m) [hostOps1] c main_v6
    = extractStridedSlice S50000x256 ![0, 0] (outArr m c) slices_S51200x256_S50000x256_0_0 := by
  have e : Pipeline.withArrays (cfgs 0).spec c (V0 m c) (fun w => (dats m 0 c).arrAt w (cfgs 0).N) (Proc.devRef .tc main_v5) = outArr m c :=
    (Pipeline.withArrays_arr spec0 (by decide) c _ _ 4).trans (final_arr m c)
  unfold Pipeline.afterTail₀
  rw [← e]
  simp only [hostOps1, List.flatten_cons, List.flatten_nil, List.append_nil]
  after_results

/-- The run of the kernel: its result, and its arguments unchanged. -/
theorem run_value (ρ : Dev nD → PrngReg) (hchk : ∀ c, Chk m c) : θ_run defs (onTc (τ := τ) (main (F := F))) ⟨m, fun _ => 0, ρ⟩ (fun r => ∀ c : Dev nD,
      r.2.mem ((c.tc : Thread nD τ).loc main_v6) = extractStridedSlice S50000x256 ![0, 0] (outArr m c) slices_S51200x256_S50000x256_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h.1 c).2 main_v6 (Pipeline.mem_restRefs_of main_v6 (by decide) (by decide))).trans (W_v6 m c),
       ((h.1 c).2 main_arg0 (Pipeline.mem_restRefs_of main_arg0 (by decide) (by decide))).trans (W_main_arg0 m (dats m) c),
       ((h.1 c).2 main_arg1 (Pipeline.mem_restRefs_of main_arg1 (by decide) (by decide))).trans (W_main_arg1 m (dats m) c),
       ((h.1 c).2 main_arg2 (Pipeline.mem_restRefs_of main_arg2 (by decide) (by decide))).trans (W_main_arg2 m (dats m) c),
       ((h.1 c).2 main_arg3 (Pipeline.mem_restRefs_of main_arg3 (by decide) (by decide))).trans (W_main_arg3 m (dats m) c)⟩) (run_main m ρ hchk)

end Any

/-- The kernel's result at node `n`, a node of graph `k`. -/
theorem result_at {m : (ℓ : Loc nD τ sig) → Buf (Elt Ideal) ℓ} {c : Dev nD} (h : SortedArg m c) (n : Fin 50000) (d : Fin 256) (k : Fin 512)
    (hk : (aI m c (ix1 n) : BitVec 32).toNat = k.val) :
    (extractStridedSlice S50000x256 ![0, 0] (outArr m c) slices_S51200x256_S50000x256_0_0 (ix2 n d) : EReal)
      = kOut (aX m c (ix2 n d)) (tot (fun n => aI m c (ix1 n)) (fun n => aX m c (ix2 n d)) k)
        (tot (fun n => aI m c (ix1 n)) (fun n => (aX m c (ix2 n d) : EReal) * (aX m c (ix2 n d) : EReal)) k) (tot (fun n => aI m c (ix1 n)) (fun _ => 1) k)
        (aW m c (ix1 d)) (aB m c (ix1 d)) := by
  have e : extractStridedSlice S50000x256 ![0, 0] (outArr m c) slices_S51200x256_S50000x256_0_0 (ix2 n d) = outArr m c (ix2 ⟨n.val, by omega⟩ d) := by
    pointwise
  rw [e]
  have hn : n.val = 5120 * (10 + n.val / 5120 - 10) + n.val % 5120 := by omega
  have hn' : n = ⟨5120 * (10 + n.val / 5120 - 10) + n.val % 5120, by omega⟩ := Fin.ext hn
  have := outAt_at h (10 + n.val / 5120) (by omega) (by omega) ⟨n.val % 5120, Nat.mod_lt _ (by omega)⟩ d (by show 5120 * (10 + n.val / 5120 - 10) + n.val % 5120 < 50000; omega) k
    (by rw [← hk]; exact congrArg (fun q => (aI m c (ix1 q) : BitVec 32).toNat) hn'.symm)
  refine Eq.trans this ?_
  exact congrArg (fun q => kOut (aX m c (ix2 q d)) _ _ _ _ _) hn'.symm

end Cert.KernelIdeal.Hand

end
-- ==== Proof.Scat.lean ====
module

public import Idealize.ShloMosaic.Lib.Pointwise
public import Idealize.ShloMosaic.Lib.Routing.OpsPair
public import Idealize.ShloMosaic.Lib.Routing.Ops

@[expose] public section

noncomputable section

namespace Cert.Scat

open Idealize.ShloMosaic Idealize.ShloMosaic.Routing

/-- The scatter of `N` rows of length `D`, one index word each, into a table of `R` rows. -/
abbrev rowsDims (R N D : ℕ) (wf : ScatterDims.WF (shape2 R D) (shape2 N 1) (shape2 N D) [1] [0] [0] 1) : ScatterDims (shape2 R D) (shape2 N 1) (shape2 N D) where
  updateWindowDims := [1]
  insertedWindowDims := [0]
  scatterDimsToOperandDims := [0]
  indexVectorDim := 1
  wf := wf

/-- The scatter of `N` entries, one index word each, into a vector of `R`. -/
abbrev vecDims (R N : ℕ) (wf : ScatterDims.WF (shape1 R) (shape2 N 1) (shape1 N) [] [0] [0] 1) : ScatterDims (shape1 R) (shape2 N 1) (shape1 N) where
  updateWindowDims := []
  insertedWindowDims := [0]
  scatterDimsToOperandDims := [0]
  indexVectorDim := 1
  wf := wf

/-- Entry `e` of update row `i` lands at `(r, c)` exactly when the row's index is `r` and `e = c`. -/
theorem lands_rows {R N D : ℕ} (wf) (idx : IVec (shape2 N 1) 32) (i : Fin N) (e : Fin D) (r : Fin R) (c : Fin D) :
    (rowsDims R N D wf).resultIdx? (ix2 i e) idx = some (ix2 r c) ↔ (idx (ix2 i (0 : Fin 1))).toInt = (r.val : Int) ∧ e = c := by
  have hs : (rowsDims R N D wf).start (ix2 i e) idx 0 = (idx (ix2 i (0 : Fin 1))).toInt := by
    unfold ScatterDims.start
    rw [dif_pos (List.mem_singleton.mpr rfl)]
    congr 2
    funext b
    match b with
    | ⟨0, _⟩ => rfl
    | ⟨1, _⟩ => rfl
  rw [ix2_eq_valueIdx, ix2_eq_valueIdx r c, resultIdx?_ix2, ← ix2_eq_valueIdx, hs]
  have hw0 : (rowsDims R N D wf).window (ix2 i e) 0 = 0 := rfl
  have hs1 : (rowsDims R N D wf).start (ix2 i e) idx 1 = 0 := rfl
  have hw1 : (rowsDims R N D wf).window (ix2 i e) 1 = e.val := rfl
  rw [hw0, hs1, hw1, Fin.ext_iff]
  omega

/-- Update `i` lands at `r` exactly when its index is `r`. -/
theorem lands_vec {R N : ℕ} (wf) (idx : IVec (shape2 N 1) 32) (i : Fin N) (r : Fin R) :
    (vecDims R N wf).resultIdx? (ix1 i) idx = some (ix1 r) ↔ (idx (ix2 i (0 : Fin 1))).toInt = (r.val : Int) := by
  have hs : (vecDims R N wf).start (ix1 i) idx 0 = (idx (ix2 i (0 : Fin 1))).toInt := by
    unfold ScatterDims.start
    rw [dif_pos (List.mem_singleton.mpr rfl)]
    congr 2
    funext b
    match b with
    | ⟨0, _⟩ => rfl
    | ⟨1, _⟩ => rfl
  rw [ix1_eq_valueIdx r, resultIdx?_ix1, hs]
  have hw0 : (vecDims R N wf).window (ix1 i) 0 = 0 := rfl
  rw [hw0]
  omega

/-- The sums of rows by index: entry `(r, c)` grows by entry `c` of every row whose index is `r`. -/
theorem rows_at {R N D : ℕ} (wf) (x : (shape2 R D).Idx → EReal) (idx : IVec (shape2 N 1) 32) (u : (shape2 N D).Idx → EReal) (r : Fin R) (c : Fin D) :
    Ideal.hostScatterAdd (rowsDims R N D wf) x idx u (ix2 r c)
      = x (ix2 r c) + ∑ i : Fin N, if (idx (ix2 i (0 : Fin 1))).toInt = (r.val : Int) then u (ix2 i c) else 0 := by
  unfold Ideal.hostScatterAdd
  rw [Finset.sum_filter, sum_idx2]
  congr 1
  refine Finset.sum_congr rfl fun i _ => ?_
  rw [Finset.sum_congr rfl fun e _ => if_congr (lands_rows wf idx i e r c) rfl rfl]
  by_cases h : (idx (ix2 i (0 : Fin 1))).toInt = (r.val : Int)
  · simp [h]
  · simp [h]

/-- Adding one for each member of a list that counts gives the count. -/
theorem fold_ones {ι : Type} (p : ι → Prop) [DecidablePred p] (l : List ι) (z : ℕ) :
    l.foldl (fun (a : BitVec 32) n => if p n then IntOp.addi a 1#32 else a) (BitVec.ofNat 32 z) = BitVec.ofNat 32 (z + (l.map fun n => if p n then 1 else 0).sum) := by
  induction l generalizing z with
  | nil => simp
  | cons n l ih =>
    rw [List.foldl_cons]
    by_cases h : p n
    · rw [if_pos h, show IntOp.addi (BitVec.ofNat 32 z) 1#32 = BitVec.ofNat 32 (z + 1) from (BitVec.ofNat_add z 1).symm, ih]
      simp [h, Nat.add_assoc]
    · rw [if_neg h, ih]
      simp [h]

/-- A count as a number is a sum of ones. -/
theorem cast_count {ι : Type} (s : Finset ι) (p : ι → Prop) [DecidablePred p] :
    ((((∑ n ∈ s, if p n then 1 else 0 : ℕ) : ℤ) : ℝ) : EReal) = ∑ n ∈ s, if p n then (1 : EReal) else 0 := by
  classical
  induction s using Finset.induction_on with
  | empty => simp
  | insert a s ha ih =>
    rw [Finset.sum_insert ha, Finset.sum_insert ha, ← ih]
    by_cases h : p a
    · simp [h]
    · simp [h]

/-- The count of the updates by index. -/
theorem count_at {R N : ℕ} (wf) (x : IVec (shape1 R) 32) (hx : ∀ i, x i = 0#32) (idx : IVec (shape2 N 1) 32) (u : IVec (shape1 N) 32) (hu : ∀ i, u i = 1#32) (r : Fin R) :
    Host.scatter (vecDims R N wf) IntOp.addi x idx u (ix1 r)
      = BitVec.ofNat 32 (∑ i : Fin N, if (idx (ix2 i (0 : Fin 1))).toInt = (r.val : Int) then 1 else 0) := by
  rw [scatter_at, hx]
  simp only [hu]
  rw [fold_ones, Nat.zero_add, ← Fin.sum_univ_def]
  congr 1
  refine Fintype.sum_equiv (finCongr (numel1 N)) _ _ fun n => ?_
  refine if_congr ?_ rfl rfl
  rw [symm1, ← ix1_eq_valueIdx, lands_vec]
  rfl

end Cert.Scat

end
-- ==== Proof.Ref.lean ====
module

public import proofs.«01_k».proof.Proof.Gen.ReferenceIdeal.Run
public import proofs.«01_k».proof.Proof.Scat
public import proofs.«01_k».proof.Proof.Totals

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.WordCmp
open Idealize.SL Idealize.SL.Sem
open Cert.KernelIdeal.Hand (tot hit)

/-- A list of indices as a column. -/
def colOf (i : IVec S50000 32) : IVec S50000x1 32 := broadcastInDim S50000x1 ![0] bcast_S50000_S50000x1_0 i

/-- An index read from the end when it is negative. -/
def wrapOf (i : IVec S50000 32) : IVec S50000 32 :=
  select (cmpi CmpIPredicate.slt i (broadcastInDim S50000 ![] bcast_S_S50000 (constantI S_ 32 0#32)))
    (addi i (broadcastInDim S50000 ![] bcast_S_S50000 (constantI S_ 32 512#32))) i

/-- The number of nodes of each graph, along the rows. -/
def counts (i : IVec S50000 32) : FVec Ideal S512x256 .f32 :=
  broadcastInDim S512x256 ![0, 1] bcast_S512x1_S512x256_0_1 (broadcastInDim S512x1 ![0] bcast_S512_S512x1_0 (sitofp FTy.f32
    (Host.scatter scatter_S512_S50000x1_S50000_n_0_0_1 IntOp.addi (broadcastInDim S512 ![] bcast_S_S512 (constantI S_ 32 0#32))
      (colOf (wrapOf (maxsi (broadcastInDim S50000 ![] bcast_S_S50000 (id (constantI S_ 32 0#32))) i)))
      (broadcastInDim S50000 ![] bcast_S_S50000 (constantI S_ 32 1#32)))))

/-- The sums of the rows of each graph, over its number of nodes. -/
def meanOf (i : IVec S50000 32) (y : FVec Ideal S50000x256 .f32) : FVec Ideal S512x256 .f32 :=
  Host.divf (Host.scatterAdd scatter_S512x256_S50000x1_S50000x256_1_0_0_1 (broadcastInDim S512x256 ![] bcast_S_S512x256 (constant S_ FTy.f32 0#32)) (colOf i) y) (counts i)

/-- Each node's graph's row of a table. -/
def rowOf (i : IVec S50000 32) (t : FVec Ideal S512x256 .f32) : FVec Ideal S50000x256 .f32 :=
  Host.gather gather_S512x256_S50000x1_S50000x256_1_0_n_n_0_1_1256 t (colOf (wrapOf i))

/-- The nodes less their graph's mean. -/
def subOf (i : IVec S50000 32) (x : FVec Ideal S50000x256 .f32) : FVec Ideal S50000x256 .f32 := subf x (rowOf i (meanOf i x))

/-- The normalized nodes. -/
def refOf (x : FVec Ideal S50000x256 .f32) (w b : FVec Ideal S256 .f32) (i : IVec S50000 32) : FVec Ideal S50000x256 .f32 :=
  addf (Host.divf (mulf (broadcastInDim S50000x256 ![0, 1] bcast_S1x256_S50000x256_0_1 (broadcastInDim S1x256 ![1] bcast_S256_S1x256_1 w)) (subOf i x))
      (rowOf i (Host.sqrt (addf (meanOf i (mulf (subOf i x) (subOf i x))) (broadcastInDim S512x256 ![] bcast_S_S512x256 (constant S_ FTy.f32 897988541#32))))))
    (broadcastInDim S50000x256 ![0, 1] bcast_S1x256_S50000x256_0_1 (broadcastInDim S1x256 ![1] bcast_S256_S1x256_1 b))

/-- The reference's result, by the definitions above. -/
theorem res_eq (m : (ℓ : Loc nD τ sig) → Buf (Elt Ideal) ℓ) (c : Dev nD) :
    res_main_v48 m c = refOf (m ((c.tc : Thread nD τ).loc main_arg0)) (m ((c.tc : Thread nD τ).loc main_arg1)) (m ((c.tc : Thread nD τ).loc main_arg2)) (m ((c.tc : Thread nD τ).loc main_arg3)) := rfl

variable {i : IVec S50000 32} (h : ∀ n : Fin 50000, (i (ix1 n)).toNat < 512)
include h

/-- An index in range is read as it is. -/
theorem wrap_at (n : Fin 50000) : wrapOf i (ix1 n) = i (ix1 n) := by
  unfold wrapOf
  pointwise
  exact Routing.wrap_of_lt _ _ (by have := h n; omega)

/-- An index in range is not below zero. -/
theorem maxs_at (n : Fin 50000) : maxsi (broadcastInDim S50000 ![] bcast_S_S50000 (id (constantI S_ 32 0#32))) i (ix1 n) = i (ix1 n) := by
  pointwise
  have h0 : 0 ≤ (i (ix1 n)).toInt := (toInt_nonneg_iff_lt_half _).mpr (by have := h n; omega)
  apply BitVec.eq_of_toInt_eq
  refine (WordArith.toInt_maxsi_zero _).trans ?_
  omega

/-- The column holds the list. -/
theorem col_at (j : IVec S50000 32) (n : Fin 50000) : colOf j (ix2 n (0 : Fin 1)) = j (ix1 n) := by
  unfold colOf
  pointwise

/-- A node of graph `k` takes row `k` of the table. -/
theorem row_at (t : FVec Ideal S512x256 .f32) (n : Fin 50000) (d : Fin 256) (k : Fin 512) (hk : (i (ix1 n)).toNat = k.val) :
    (rowOf i t (ix2 n d) : EReal) = t (ix2 k d) := by
  unfold rowOf
  rw [ix2_eq_valueIdx, ix2_eq_valueIdx]
  refine Routing.gather_row _ rfl rfl rfl rfl rfl t _ n d k ?_ (by omega)
  rw [← ix2_eq_valueIdx, col_at h, wrap_at h, ← hk, BitVec.ofNat_toNat, BitVec.setWidth_eq]

/-- A signed index names graph `k` when it does unsigned. -/
theorem toInt_eq (n : Fin 50000) (k : Fin 512) : (i (ix1 n)).toInt = (k.val : Int) ↔ (i (ix1 n)).toNat = k.val := by
  have e : (i (ix1 n)).toInt = ((i (ix1 n)).toNat : Int) := BitVec.toInt_eq_toNat_of_lt (by have := h n; omega)
  rw [e]
  omega

/-- The sums of rows by index are the totals. -/
theorem sums_at (y : FVec Ideal S50000x256 .f32) (k : Fin 512) (d : Fin 256) :
    (Host.scatterAdd scatter_S512x256_S50000x1_S50000x256_1_0_0_1 (broadcastInDim S512x256 ![] bcast_S_S512x256 (constant S_ FTy.f32 0#32)) (colOf i) y (ix2 k d) : EReal)
      = tot (fun n => i (ix1 n)) (fun n => y (ix2 n d)) k := by
  refine (Scat.rows_at scatter_S512x256_S50000x1_S50000x256_1_0_0_1_wf _ (colOf i) y k d).trans ?_
  have e0 : (broadcastInDim S512x256 ![] bcast_S_S512x256 (constant (F := Ideal) S_ FTy.f32 0#32) (ix2 k d) : EReal) = 0 := by
    pointwise
  refine (congrArg (· + _) e0).trans ((zero_add _).trans ?_)
  unfold tot
  refine Finset.sum_congr rfl fun n _ => ?_
  rw [col_at h]
  unfold hit
  by_cases e : (i (ix1 n)).toNat = k.val
  · rw [if_pos ((toInt_eq h n k).mpr e), if_pos e, one_mul]
  · rw [if_neg (mt (toInt_eq h n k).mp e), if_neg e, zero_mul]

/-- The counts, as sums of ones. -/
theorem counts_at (k : Fin 512) (d : Fin 256) : (counts i (ix2 k d) : EReal) = tot (fun n => i (ix1 n)) (fun _ => 1) k := by
  have em : maxsi (broadcastInDim S50000 ![] bcast_S_S50000 (id (constantI S_ 32 0#32))) i = i := by
    funext q
    rw [eq_ix1 q]
    exact maxs_at h _
  have ew : wrapOf i = i := by
    funext q
    rw [eq_ix1 q]
    exact wrap_at h _
  unfold counts
  rw [em, ew]
  pointwise
  have e := Scat.count_at scatter_S512_S50000x1_S50000_n_0_0_1_wf (broadcastInDim S512 ![] bcast_S_S512 (constantI S_ 32 0#32)) (fun _ => rfl) (colOf i)
    (broadcastInDim S50000 ![] bcast_S_S50000 (constantI S_ 32 1#32)) (fun _ => rfl) k
  refine (congrArg (fun v : BitVec 32 => ((v.toInt : ℝ) : EReal)) e).trans ?_
  generalize hc : (∑ n : Fin 50000, if (colOf i (ix2 n (0 : Fin 1))).toInt = (k.val : Int) then (1 : ℕ) else 0) = c
  have hle : c ≤ 50000 := by
    rw [← hc]
    refine (Finset.sum_le_card_nsmul _ _ 1 fun n _ => by split <;> omega).trans ?_
    simp
  have ei : (BitVec.ofNat 32 c).toInt = (c : Int) := StableHlo.Predicate.toInt_ofNat_small _ (by omega)
  show (((BitVec.ofNat 32 c).toInt : ℝ) : EReal) = _
  rw [ei, ← hc]
  refine (Scat.cast_count _ _).trans ?_
  unfold tot
  refine Finset.sum_congr rfl fun n _ => ?_
  rw [col_at h, mul_one]
  unfold hit
  by_cases e : (i (ix1 n)).toNat = k.val
  · rw [if_pos ((toInt_eq h n k).mpr e), if_pos e]
  · rw [if_neg (mt (toInt_eq h n k).mp e), if_neg e]

/-- The mean of a graph's rows. -/
theorem mean_at (y : FVec Ideal S50000x256 .f32) (k : Fin 512) (d : Fin 256) :
    (meanOf i y (ix2 k d) : EReal) = Ideal.div (tot (fun n => i (ix1 n)) (fun n => y (ix2 n d)) k) (tot (fun n => i (ix1 n)) (fun _ => 1) k) := by
  rw [← sums_at h y k d, ← counts_at h k d]
  rfl

/-- A node less its graph's mean, at an index. -/
theorem sub_at (x : FVec Ideal S50000x256 .f32) (n : Fin 50000) (d : Fin 256) (k : Fin 512) (hk : (i (ix1 n)).toNat = k.val) :
    (subOf i x (ix2 n d) : EReal)
      = x (ix2 n d) - Ideal.div (tot (fun n => i (ix1 n)) (fun n => x (ix2 n d)) k) (tot (fun n => i (ix1 n)) (fun _ => 1) k) := by
  rw [← mean_at h, ← row_at h (meanOf i x) n d k hk]
  rfl

/-- The reference's result at node `n`, a node of graph `k`. -/
theorem ref_at (x : FVec Ideal S50000x256 .f32) (w b : FVec Ideal S256 .f32) (n : Fin 50000) (d : Fin 256) (k : Fin 512) (hk : (i (ix1 n)).toNat = k.val) :
    (refOf x w b i (ix2 n d) : EReal)
      = Ideal.div ((w (ix1 d) : EReal) * (x (ix2 n d) - Ideal.div (tot (fun n => i (ix1 n)) (fun n => x (ix2 n d)) k) (tot (fun n => i (ix1 n)) (fun _ => 1) k)))
          (Ideal.sqrt (Ideal.div (tot (fun n => i (ix1 n)) (fun n => (subOf i x (ix2 n d) : EReal) * (subOf i x (ix2 n d) : EReal)) k)
              (tot (fun n => i (ix1 n)) (fun _ => 1) k) + Ideal.ofBits FTy.f32 897988541#32))
        + b (ix1 d) := by
  rw [← sub_at h x n d k hk]
  have e : (rowOf i (Host.sqrt (addf (meanOf i (mulf (subOf i x) (subOf i x))) (broadcastInDim S512x256 ![] bcast_S_S512x256 (constant S_ FTy.f32 897988541#32)))) (ix2 n d) : EReal)
      = Ideal.sqrt (Ideal.div (tot (fun n => i (ix1 n)) (fun n => (subOf i x (ix2 n d) : EReal) * (subOf i x (ix2 n d) : EReal)) k)
              (tot (fun n => i (ix1 n)) (fun _ => 1) k) + Ideal.ofBits FTy.f32 897988541#32) := by
    rw [row_at h _ n d k hk]
    show Ideal.sqrt ((meanOf i (mulf (subOf i x) (subOf i x)) (ix2 k d) : EReal) + Ideal.ofBits FTy.f32 897988541#32) = _
    rw [mean_at h]
    rfl
  rw [← e]
  unfold refOf
  pointwise

end Cert.ReferenceIdeal.Hand

end
-- ==== Proof.Math.lean ====
module

public import proofs.«01_k».proof.Proof.Totals

@[expose] public section

noncomputable section

namespace Cert.GraphNorm

open Idealize.ShloMosaic
open Cert.KernelIdeal.Hand (tot hit kOut kScale kMean)

/-- The printed small constant is a positive real. -/
theorem eps_pos : ∃ e : ℝ, 0 < e ∧ Ideal.ofBits FTy.f32 897988541#32 = (e : EReal) := by
  refine ⟨((2 ^ 23 + 407485 : ℕ) : ℝ) * (2 : ℝ) ^ (107 - 127 - 23 : Int), by positivity, ?_⟩
  have h1 : (BitVec.extractLsb' 31 1 897988541#32 == 1#1) = false := by decide
  have h2 : (BitVec.extractLsb' 23 8 897988541#32).toNat = 107 := by decide
  have h3 : (BitVec.extractLsb' 0 23 897988541#32).toNat = 407485 := by decide
  simp only [Ideal.ofBits, Ideal.ieee, h1, h2, h3]
  norm_num

variable {g : Fin 50000 → BitVec 32} {k : Fin 512}

/-- The rows of graph `k`. -/
def rows (g : Fin 50000 → BitVec 32) (k : Fin 512) : Finset (Fin 50000) := Finset.univ.filter fun n => (g n).toNat = k.val

/-- A total is the sum over the graph's rows. -/
theorem tot_eq (f : Fin 50000 → EReal) : tot g f k = ∑ n ∈ rows g k, f n := by
  unfold tot rows
  rw [Finset.sum_filter]
  refine Finset.sum_congr rfl fun n _ => ?_
  unfold hit
  by_cases h : (g n).toNat = k.val
  · rw [if_pos h, if_pos h, one_mul]
  · rw [if_neg h, if_neg h, zero_mul]

/-- A sum of reals, as extended reals. -/
theorem coe_sum {ι : Type} (s : Finset ι) (y : ι → ℝ) : ((∑ n ∈ s, y n : ℝ) : EReal) = ∑ n ∈ s, (y n : EReal) :=
  map_sum (⟨⟨Real.toEReal, EReal.coe_zero⟩, EReal.coe_add⟩ : ℝ →+ EReal) y s

/-- A total of reals is a real. -/
theorem tot_real (f : Fin 50000 → EReal) (y : Fin 50000 → ℝ) (h : ∀ n, (g n).toNat = k.val → f n = (y n : EReal)) :
    tot g f k = ((∑ n ∈ rows g k, y n : ℝ) : EReal) := by
  rw [tot_eq, coe_sum]
  exact Finset.sum_congr rfl fun n hn => h n (Finset.mem_filter.mp hn).2

/-- The total of ones is the number of rows. -/
theorem tot_ones : tot g (fun _ => 1) k = (((rows g k).card : ℝ) : EReal) := by
  rw [tot_real (fun _ => 1) (fun _ => 1) fun _ _ => rfl, Finset.sum_const, nsmul_eq_mul, mul_one]

/-- The sum of squares about the mean is the sum of squares less the sum squared over the count. -/
theorem sum_sq_sub {ι : Type} (s : Finset ι) (y : ι → ℝ) (hs : (s.card : ℝ) ≠ 0) :
    (∑ n ∈ s, (y n - (∑ n ∈ s, y n) / s.card) * (y n - (∑ n ∈ s, y n) / s.card)) / s.card
      = (∑ n ∈ s, y n * y n) / s.card - (∑ n ∈ s, y n) / s.card * ((∑ n ∈ s, y n) / s.card) := by
  generalize hμ : (∑ n ∈ s, y n) / s.card = μ
  have hS : ∑ n ∈ s, y n = s.card * μ := by rw [← hμ]; field_simp
  have e : ∑ n ∈ s, (y n - μ) * (y n - μ) = ∑ n ∈ s, y n * y n - s.card * (μ * μ) := by
    have : ∀ n ∈ s, (y n - μ) * (y n - μ) = y n * y n - 2 * μ * y n + μ * μ := fun n _ => by ring
    rw [Finset.sum_congr rfl this, Finset.sum_add_distrib, Finset.sum_sub_distrib, ← Finset.mul_sum, hS, Finset.sum_const, nsmul_eq_mul]
    ring
  rw [e]
  field_simp

/-- The kernel's formula is the reference's, at a row of graph `k` of real entries, a real weight and any bias. -/
theorem out_eq (y : Fin 50000 → ℝ) (n : Fin 50000) (hn : (g n).toNat = k.val) (w : ℝ) (b : EReal) :
    kOut (y n) (tot g (fun n => (y n : EReal)) k) (tot g (fun n => (y n : EReal) * (y n : EReal)) k) (tot g (fun _ => 1) k) w b
      = Ideal.div ((w : EReal) * ((y n : EReal) - Ideal.div (tot g (fun n => (y n : EReal)) k) (tot g (fun _ => 1) k)))
          (Ideal.sqrt (Ideal.div (tot g (fun q => ((y q : EReal) - Ideal.div (tot g (fun n => (y n : EReal)) k) (tot g (fun _ => 1) k))
                * ((y q : EReal) - Ideal.div (tot g (fun n => (y n : EReal)) k) (tot g (fun _ => 1) k))) k) (tot g (fun _ => 1) k)
              + Ideal.ofBits FTy.f32 897988541#32))
        + b := by
  obtain ⟨e, he, hb⟩ := eps_pos
  have hc : 1 ≤ ((rows g k).card : ℝ) := by
    exact_mod_cast Finset.card_pos.mpr ⟨n, Finset.mem_filter.mpr ⟨Finset.mem_univ n, hn⟩⟩
  have hc0 : ((rows g k).card : ℝ) ≠ 0 := by linarith
  have hv := sum_sq_sub (rows g k) y hc0
  rw [hb, tot_ones, tot_real (fun n => (y n : EReal)) y fun _ _ => rfl,
    tot_real (fun n => (y n : EReal) * (y n : EReal)) (fun n => y n * y n) fun n _ => (EReal.coe_mul _ _).symm, Ideal.div_coe hc0, ← EReal.coe_mul, mul_one_div,
    tot_real _ (fun q => (y q - (∑ n ∈ rows g k, y n) / (rows g k).card) * (y q - (∑ n ∈ rows g k, y n) / (rows g k).card)) fun q _ => by
      rw [← EReal.coe_sub, ← EReal.coe_mul], Ideal.div_coe hc0, ← EReal.coe_mul, mul_one_div, hv]
  have hv0 : 0 ≤ (∑ n ∈ rows g k, y n * y n) / (rows g k).card - (∑ n ∈ rows g k, y n) / (rows g k).card * ((∑ n ∈ rows g k, y n) / (rows g k).card) := by
    rw [← hv]
    exact div_nonneg (Finset.sum_nonneg fun q _ => mul_self_nonneg _) (by linarith)
  unfold kOut kScale kMean
  have hm : max (((rows g k).card : ℝ) : EReal) 1 = (((rows g k).card : ℝ) : EReal) := max_eq_left (by exact_mod_cast hc)
  rw [hm, Ideal.div_coe hc0, one_mul, hb, ← EReal.coe_mul, ← EReal.coe_mul, mul_one_div, mul_one_div]
  generalize (∑ n ∈ rows g k, y n) / ((rows g k).card : ℝ) = μ at hv0 ⊢
  generalize (∑ n ∈ rows g k, y n * y n) / ((rows g k).card : ℝ) = q at hv0 ⊢
  have hp : 0 < q - μ * μ + e := by linarith
  rw [← EReal.coe_mul, ← EReal.coe_sub, max_eq_left (by exact_mod_cast hv0), ← EReal.coe_add, Ideal.rsqrt_coe, Ideal.sqrt_coe, if_neg hp.not_gt, if_neg hp.ne', if_neg hp.not_gt,
    Ideal.div_coe (Real.sqrt_pos.mpr hp).ne']
  rw [← EReal.coe_sub, ← EReal.coe_mul, ← EReal.coe_mul, ← EReal.coe_mul, ← EReal.coe_mul, ← EReal.coe_mul, sub_eq_add_neg b, ← EReal.coe_neg, add_left_comm, ← EReal.coe_add, add_comm b]
  congr 2
  rw [one_div]
  ring

end Cert.GraphNorm

end
-- ==== Proof.Value.lean ====
module

public import proofs.«01_k».proof.Proof.Pre
public import proofs.«01_k».proof.Proof.Words
public import proofs.«01_k».proof.Proof.Result
public import proofs.«01_k».proof.Proof.Ref
public import proofs.«01_k».proof.Proof.Math

@[expose] public section

set_option maxRecDepth 16384

noncomputable section

namespace Cert.GraphNorm

open Idealize.ShloMosaic Idealize.ShloMosaic.TcCoe Idealize.ShloMosaic.WordCmp
open Idealize.SL Idealize.SL.Sem
open Cert.KernelIdeal Cert.KernelIdeal.Gen Cert.KernelIdeal.Hand
open Cert.ReferenceIdeal.Hand (refOf subOf sub_at ref_at)

variable {m : (ℓ : Loc nD τ sig) → Buf (Elt Ideal) ℓ} {c : Dev nD}

/-- A signed index in range is the same unsigned. -/
theorem toInt_toNat (h : PreRead.Good (aX m c) (aW m c) (aI m c)) (n : Fin 50000) :
    (aI m c (ix1 n) : BitVec 32).toInt = ((aI m c (ix1 n) : BitVec 32).toNat : Int) := by
  have h1 := (toInt_nonneg_iff_lt_half _).mp (h.lo n)
  exact BitVec.toInt_eq_toNat_of_lt (by omega)

/-- The precondition's order and range, on the unsigned indices. -/
theorem sorted_arg (h : PreRead.Good (aX m c) (aW m c) (aI m c)) : SortedArg m c where
  lt n := by
    have h1 := h.hi n
    rw [toInt_toNat h] at h1
    omega
  mono a b hab := by
    have h1 := h.mono a b hab
    rw [toInt_toNat h, toInt_toNat h] at h1
    omega

/-- Under the precondition, the kernel's result is the reference's at every node. -/
theorem same_at (h : PreRead.Good (aX m c) (aW m c) (aI m c)) (n : Fin 50000) (d : Fin 256) :
    (extractStridedSlice S50000x256 ![0, 0] (outArr m c) slices_S51200x256_S50000x256_0_0 (ix2 n d) : EReal) = refOf (aX m c) (aW m c) (aB m c) (aI m c) (ix2 n d) := by
  have hs := sorted_arg h
  have hk : (aI m c (ix1 n) : BitVec 32).toNat = (⟨_, hs.lt n⟩ : Fin 512).val := rfl
  generalize (⟨_, hs.lt n⟩ : Fin 512) = k at hk
  choose y hy using fun n => h.xr n d
  obtain ⟨w, hw⟩ := h.wr d
  refine (result_at hs n d k hk).trans (Eq.trans ?_ (ref_at hs.lt (aX m c) (aW m c) (aB m c) n d k hk).symm)
  have ht : tot (fun n => aI m c (ix1 n)) (fun n => (subOf (aI m c) (aX m c) (ix2 n d) : EReal) * (subOf (aI m c) (aX m c) (ix2 n d) : EReal)) k
      = tot (fun n => aI m c (ix1 n)) (fun q => ((y q : EReal) - Ideal.div (tot (fun n => aI m c (ix1 n)) (fun n => (y n : EReal)) k) (tot (fun n => aI m c (ix1 n)) (fun _ => 1) k))
          * ((y q : EReal) - Ideal.div (tot (fun n => aI m c (ix1 n)) (fun n => (y n : EReal)) k) (tot (fun n => aI m c (ix1 n)) (fun _ => 1) k))) k := by
    rw [tot_eq, tot_eq]
    refine Finset.sum_congr rfl fun p hp => ?_
    rw [sub_at hs.lt (aX m c) p d k (Finset.mem_filter.mp hp).2]
    simp only [hy]
  rw [ht]
  simp only [hy, hw]
  exact out_eq y n hk w _

/-- Under the precondition, the kernel's result is the reference's. -/
theorem same (h : PreRead.Good (aX m c) (aW m c) (aI m c)) :
    extractStridedSlice S50000x256 ![0, 0] (outArr m c) slices_S51200x256_S50000x256_0_0 = refOf (aX m c) (aW m c) (aB m c) (aI m c) := by
  funext q
  rw [eq_ix2 q]
  exact same_at h _ _

end Cert.GraphNorm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_indices_nonnegative
public import proofs.«01_k».proof.Proof.Gen.Pre_sorted_graphs_finite_nodes
public import proofs.«01_k».proof.Proof.KFrame
public import proofs.«01_k».proof.Proof.Words
public import proofs.«01_k».proof.Proof.Pre
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's own run at the machine's floats: it ends, its arguments are unchanged and every counter is zero. -/
theorem frame_k : Cert.quiescent_Kernel := fun m g hp =>
  Cert.Kernel.Hand.frame_kernel m g fun c => Cert.KernelIdeal.Hand.chk_of_indices _ c (Cert.PreRead.nonneg _ _ _ _ (hp c))

/-- The same run over the extended reals. -/
theorem frame_ki : Cert.quiescent_KernelIdeal := fun m g hp =>
  Cert.KernelIdeal.Hand.frame_main m g fun c => Cert.KernelIdeal.Hand.chk_of_indices _ c (Cert.PreRead.nonneg _ _ _ _ (hp c))

/-- The same run where the value claim is stated. -/
theorem frame_ki_sorted : Cert.quiescent_KernelIdeal_pre_sorted_graphs_finite_nodes := fun m g hp =>
  Cert.KernelIdeal.Hand.frame_main m g fun c => Cert.KernelIdeal.Hand.chk_of_indices _ c (Cert.PreRead.good _ _ _ _ (hp c)).lo

/-- The reference's run: it ends, its arguments are unchanged and every counter is zero. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The same run, stated with the value claim. -/
theorem frame_ri_sorted : Cert.quiescent_ReferenceIdeal_pre_sorted_graphs_finite_nodes := fun m g _ => frame_ri m g trivial

/-- The kernel and the reference end with the same result, over the extended reals. -/
theorem same_result : Cert.algebraic_KernelIdeal_ReferenceIdeal_pre_sorted_graphs_finite_nodes := fun m g m' g' hp ha =>
  ⟨_, Cert.KernelIdeal.Hand.run_value m g fun c => Cert.KernelIdeal.Hand.chk_of_indices _ c (Cert.PreRead.good _ _ _ _ (hp c)).lo,
    (θ_run Cert.ReferenceIdeal.defs _ _).mono (fun r h c => ⟨by
        obtain ⟨h0, h1, h2, h3⟩ := ha c
        rw [(h c).1, Cert.ReferenceIdeal.Hand.res_eq, h0, h1, h2, h3]
        exact (Cert.GraphNorm.same (Cert.PreRead.good _ _ _ _ (hp c))).symm, (h c).2⟩)
      (Cert.ReferenceIdeal.Value.run (F := Ideal) m' g')⟩

/-- Everything that is claimed. -/
theorem claim : Cert.Claim := ⟨Cert.Kernel.Gen.facts, Cert.KernelIdeal.Gen.facts, Cert.ReferenceIdeal.Gen.facts,
  Cert.Pre_indices_nonnegative.Gen.facts, Cert.Pre_sorted_graphs_finite_nodes.Gen.facts,
  frame_k, frame_ki, frame_ki_sorted, frame_ri, frame_ri_sorted, trivial, same_result⟩

end Cert.Proof

end
